-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S4x65536x80 : Shape := ⟨3, ![4, 65536, 80]⟩
abbrev S4x65536x4 : Shape := ⟨3, ![4, 65536, 4]⟩
abbrev S1x65536x4 : Shape := ⟨3, ![1, 65536, 4]⟩
abbrev S4x32x5 : Shape := ⟨3, ![4, 32, 5]⟩
abbrev S4x32x1 : Shape := ⟨3, ![4, 32, 1]⟩
abbrev S4x32 : Shape := ⟨2, ![4, 32]⟩
abbrev S_ : Shape := ⟨0, ![]⟩

class Facts : Prop where
  slices_S4x32x5_S4x32x1_0_0_4 : S4x32x5.Slices ![0, 0, 4] S4x32x1
  shapeCasts_S4x32x1_S4x32 : S4x32x1.ShapeCasts S4x32
  bcast_S_S4x32 : S_.BroadcastsInDim S4x32 (![] : Fin 0 → Fin S4x32.rank)
  reducesTo_S4x32_S_d0_1 : S4x32.ReducesTo [0, 1] S_
  h_S_ : 0 < S_.numel

variable [Facts]

def fn {F : FTy → Type} [FloatOps F] (main_arg0 : FVec F S4x65536x80 .f32) (main_arg1 : FVec F S4x65536x4 .f32) (main_arg2 : FVec F S1x65536x4 .f32) (main_arg3 : FVec F S4x32x5 .f32) : IVec S_ 1 :=
  let main_v0 : FVec F S4x32x1 .f32 := (extractStridedSlice S4x32x1 ![0, 0, 4] · slices_S4x32x5_S4x32x1_0_0_4) main_arg3
  let main_v1 : FVec F S4x32 .f32 := shapeCast S4x32 main_v0 shapeCasts_S4x32x1_S4x32
  let main_v2 : IVec S4x32 32 := fptosi 32 main_v1
  let main_c : IVec S_ 32 := constantI S_ 32 0#32
  let main_v3 : IVec S4x32 32 := broadcastInDim S4x32 ![] bcast_S_S4x32 main_c
  let main_v4 : IVec S4x32 1 := cmpi .sge main_v2 main_v3
  let main_c_0 : IVec S_ 32 := constantI S_ 32 80#32
  let main_v5 : IVec S4x32 32 := broadcastInDim S4x32 ![] bcast_S_S4x32 main_c_0
  let main_v6 : IVec S4x32 1 := cmpi .slt main_v2 main_v5
  let main_v7 : IVec S4x32 1 := andi main_v4 main_v6
  let main_c_1 : IVec S_ 1 := constantI S_ 1 1#1
  let main_v8 : IVec S_ 1 := (fun x v => Host.reduce IntOp.andi x v reducesTo_S4x32_S_d0_1 h_S_) main_v7 main_c_1
  main_v8
-- ==== Kernel.lean ====
abbrev S4x65536x80 : Shape := ⟨3, ![4, 65536, 80]⟩
abbrev S4x65536x4 : Shape := ⟨3, ![4, 65536, 4]⟩
abbrev S1x65536x4 : Shape := ⟨3, ![1, 65536, 4]⟩
abbrev S4x32x5 : Shape := ⟨3, ![4, 32, 5]⟩
abbrev S65536x4 : Shape := ⟨2, ![65536, 4]⟩
abbrev S4x65536 : Shape := ⟨2, ![4, 65536]⟩
abbrev S4x512x128 : Shape := ⟨3, ![4, 512, 128]⟩
abbrev S4x4x65536 : Shape := ⟨3, ![4, 4, 65536]⟩
abbrev S4x4x512x128 : Shape := ⟨4, ![4, 4, 512, 128]⟩
abbrev S4x32x1 : Shape := ⟨3, ![4, 32, 1]⟩
abbrev S4x32 : Shape := ⟨2, ![4, 32]⟩
abbrev S4x32x4 : Shape := ⟨3, ![4, 32, 4]⟩
abbrev S4x32x6 : Shape := ⟨3, ![4, 32, 6]⟩
abbrev S4x1x128 : Shape := ⟨3, ![4, 1, 128]⟩
abbrev S1x4096x80 : Shape := ⟨3, ![1, 4096, 80]⟩
abbrev S1x4x32x128 : Shape := ⟨4, ![1, 4, 32, 128]⟩
abbrev S4x32x128 : Shape := ⟨3, ![4, 32, 128]⟩
abbrev S1x32x128 : Shape := ⟨3, ![1, 32, 128]⟩
abbrev S32x128 : Shape := ⟨2, ![32, 128]⟩
abbrev S1x1x1 : Shape := ⟨3, ![1, 1, 1]⟩
abbrev S1x1x32x128 : Shape := ⟨4, ![1, 1, 32, 128]⟩
abbrev S1 : Shape := ⟨1, ![1]⟩
abbrev S4096x80 : Shape := ⟨2, ![4096, 80]⟩
abbrev S80x4096 : Shape := ⟨2, ![80, 4096]⟩
abbrev S4096 : Shape := ⟨1, ![4096]⟩
abbrev S1x4096 : Shape := ⟨2, ![1, 4096]⟩
abbrev S1x1 : Shape := ⟨2, ![1, 1]⟩
abbrev S4x1x1 : Shape := ⟨3, ![4, 1, 1]⟩
abbrev S4 : Shape := ⟨1, ![4]⟩
abbrev S_ : Shape := ⟨0, ![]⟩
abbrev S2 : Shape := ⟨1, ![2]⟩

abbrev nBuf : Space → Nat
  | .hbm => 57
  | .vmem => 13
  | .smem => 1
  | _ => 0

abbrev bufTy : (tb : Table) → Fin (tcTables nBuf tb) → BufTy
  | .hbm, ⟨0, _⟩ => ⟨S4x65536x80, .f32⟩
  | .hbm, ⟨1, _⟩ => ⟨S4x65536x4, .f32⟩
  | .hbm, ⟨2, _⟩ => ⟨S1x65536x4, .f32⟩
  | .hbm, ⟨3, _⟩ => ⟨S4x32x5, .f32⟩
  | .hbm, ⟨4, _⟩ => ⟨S65536x4, .f32⟩
  | .hbm, ⟨5, _⟩ => ⟨S4x65536, .f32⟩
  | .hbm, ⟨6, _⟩ => ⟨S4x512x128, .f32⟩
  | .hbm, ⟨7, _⟩ => ⟨S4x4x65536, .f32⟩
  | .hbm, ⟨8, _⟩ => ⟨S4x4x512x128, .f32⟩
  | .hbm, ⟨9, _⟩ => ⟨S4x32x1, .f32⟩
  | .hbm, ⟨10, _⟩ => ⟨S4x32, .f32⟩
  | .hbm, ⟨11, _⟩ => ⟨S4x32x1, .f32⟩
  | .hbm, ⟨12, _⟩ => ⟨S4x32, .f32⟩
  | .hbm, ⟨13, _⟩ => ⟨S4x32, .f32⟩
  | .hbm, ⟨14, _⟩ => ⟨S4x32x1, .f32⟩
  | .hbm, ⟨15, _⟩ => ⟨S4x32, .f32⟩
  | .hbm, ⟨16, _⟩ => ⟨S4x32x1, .f32⟩
  | .hbm, ⟨17, _⟩ => ⟨S4x32, .f32⟩
  | .hbm, ⟨18, _⟩ => ⟨S4x32, .f32⟩
  | .hbm, ⟨19, _⟩ => ⟨S4x32, .f32⟩
  | .hbm, ⟨20, _⟩ => ⟨S4x32x4, .f32⟩
  | .hbm, ⟨21, _⟩ => ⟨S4x32x1, .f32⟩
  | .hbm, ⟨22, _⟩ => ⟨S4x32x1, .f32⟩
  | .hbm, ⟨23, _⟩ => ⟨S4x32x6, .f32⟩
  | .hbm, ⟨24, _⟩ => ⟨S4x1x128, .f32⟩
  | .hbm, ⟨25, _⟩ => ⟨S4x1x1, .f32⟩
  | .hbm, ⟨26, _⟩ => ⟨S4, .f32⟩
  | .hbm, ⟨27, _⟩ => ⟨S4x1x1, .f32⟩
  | .hbm, ⟨28, _⟩ => ⟨S4, .f32⟩
  | .hbm, ⟨29, _⟩ => ⟨S4x1x1, .f32⟩
  | .hbm, ⟨30, _⟩ => ⟨S4, .f32⟩
  | .hbm, ⟨31, _⟩ => ⟨S_, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S_, .f32⟩
  | .hbm, ⟨54, _⟩ => ⟨S1, .f32⟩
  | .hbm, ⟨55, _⟩ => ⟨S1, .f32⟩
  | .hbm, ⟨56, _⟩ => ⟨S2, .f32⟩
  | .local _ .vmem, ⟨0, _⟩ => ⟨S1x4096x80, .f32⟩
  | .local _ .vmem, ⟨1, _⟩ => ⟨S1x4096x80, .f32⟩
  | .local _ .vmem, ⟨2, _⟩ => ⟨S1x4096x80, .f32⟩
  | .local _ .vmem, ⟨3, _⟩ => ⟨S1x4096x80, .f32⟩
  | .local _ .vmem, ⟨4, _⟩ => ⟨S1x4x32x128, .f32⟩
  | .local _ .vmem, ⟨5, _⟩ => ⟨S1x4x32x128, .f32⟩
  | .local _ .vmem, ⟨6, _⟩ => ⟨S1x4x32x128, .f32⟩
  | .local _ .vmem, ⟨7, _⟩ => ⟨S1x4x32x128, .f32⟩
  | .local _ .vmem, ⟨8, _⟩ => ⟨S4x32x128, .f32⟩
  | .local _ .vmem, ⟨9, _⟩ => ⟨S4x32x128, .f32⟩
  | .local _ .vmem, ⟨10, _⟩ => ⟨S4x32x128, .f32⟩
  | .local _ .vmem, ⟨11, _⟩ => ⟨S4x32x128, .f32⟩
  | .local _ .vmem, ⟨12, _⟩ => ⟨S4x1x128, .f32⟩
  | .local _ .smem, ⟨0, _⟩ => ⟨S4x32x6, .f32⟩
  | _, _ => ⟨S4x65536x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_v27 : Ref sig .tc := ⟨.hbm, 34, rfl⟩
abbrev main_v28 : Ref sig .tc := ⟨.hbm, 35, rfl⟩
abbrev main_cst_0 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v16 : Index := Scalar.indexCast arg1
  let c0_10 : Index := 0#32
  let c0_11 : Index := 0#32
  ![v16.toNat, 0, 0]
def k0_off2 (i : grid0.Coords) : Fin 3 → Nat :=
  let arg1 : BitVec 32 := BitVec.ofNat 32 (i 1).val
  let v18 : Index := Scalar.indexCast arg1
  let c0_12 : Index := 0#32
  let c1_13 : Index := 1#32
  ![v18.toNat, 0, 1]
def k0_off3 (i : grid0.Coords) : Fin 3 → Nat :=
  let arg1 : BitVec 32 := BitVec.ofNat 32 (i 1).val
  let v20 : Index := Scalar.indexCast arg1
  let c0_14 : Index := 0#32
  let c2_15 : Index := 2#32
  ![v20.toNat, 0, 2]
def k0_off4 (i : grid0.Coords) : Fin 3 → Nat :=
  let arg1 : BitVec 32 := BitVec.ofNat 32 (i 1).val
  let v22 : Index := Scalar.indexCast arg1
  let c0_16 : Index := 0#32
  let c3_17 : Index := 3#32
  ![v22.toNat, 0, 3]
def k0_off5 (i : grid0.Coords) : Fin 3 → Nat :=
  let arg1 : BitVec 32 := BitVec.ofNat 32 (i 1).val
  let v24 : Index := Scalar.indexCast arg1
  let c0_18 : Index := 0#32
  let c4 : Index := 4#32
  ![v24.toNat, 0, 4]
def k0_off6 (i : grid0.Coords) : Fin 3 → Nat :=
  let arg1 : BitVec 32 := BitVec.ofNat 32 (i 1).val
  let v59 : Index := Scalar.indexCast arg1
  let c0_29 : Index := 0#32
  let c5 : Index := 5#32
  ![v59.toNat, 0, 5]
def k0_off7 (i : grid0.Coords) : Fin 3 → Nat :=
  let arg1 : BitVec 32 := BitVec.ofNat 32 (i 1).val
  let v62 : Index := Scalar.indexCast arg1
  let c1_30 : Index := 1#32
  let c0_31 : Index := 0#32
  ![v62.toNat, 1, 0]
def k0_off8 (i : grid0.Coords) : Fin 3 → Nat :=
  let arg1 : BitVec 32 := BitVec.ofNat 32 (i 1).val
  let v64 : Index := Scalar.indexCast arg1
  let c1_32 : Index := 1#32
  let c1_33 : Index := 1#32
  ![v64.toNat, 1, 1]
def k0_off9 (i : grid0.Coords) : Fin 3 → Nat :=
  let arg1 : BitVec 32 := BitVec.ofNat 32 (i 1).val
  let v66 : Index := Scalar.indexCast arg1
  let c1_34 : Index := 1#32
  let c2_35 : Index := 2#32
  ![v66.toNat, 1, 2]
def k0_off10 (i : grid0.Coords) : Fin 3 → Nat :=
  let arg1 : BitVec 32 := BitVec.ofNat 32 (i 1).val
  let v68 : Index := Scalar.indexCast arg1
  let c1_36 : Index := 1#32
  let c3_37 : Index := 3#32
  ![v68.toNat, 1, 3]
def k0_off11 (i : grid0.Coords) : Fin 3 → Nat :=
  let arg1 : BitVec 32 := BitVec.ofNat 32 (i 1).val
  let v70 : Index := Scalar.indexCast arg1
  let c1_38 : Index := 1#32
  let c4_39 : Index := 4#32
  ![v70.toNat, 1, 4]
def k0_off12 (i : grid0.Coords) : Fin 3 → Nat :=
  let arg1 : BitVec 32 := BitVec.ofNat 32 (i 1).val
  let v111 : Index := Scalar.indexCast arg1
  let c1_51 : Index := 1#32
  let c5_52 : Index := 5#32
  ![v111.toNat, 1, 5]
def k0_off13 (i : grid0.Coords) : Fin 3 → Nat :=
  let arg1 : BitVec 32 := BitVec.ofNat 32 (i 1).val
  let v115 : Index := Scalar.indexCast arg1
  let c2_53 : Index := 2#32
  let c0_54 : Index := 0#32
  ![v115.toNat, 2, 0]
def k0_off14 (i : grid0.Coords) : Fin 3 → Nat :=
  let arg1 : BitVec 32 := BitVec.ofNat 32 (i 1).val
  let v117 : Index := Scalar.indexCast arg1
  let c2_55 : Index := 2#32
  let c1_56 : Index := 1#32
  ![v117.toNat, 2, 1]
def k0_off15 (i : grid0.Coords) : Fin 3 → Nat :=
  let arg1 : BitVec 32 := BitVec.ofNat 32 (i 1).val
  let v119 : Index := Scalar.indexCast arg1
  let c2_57 : Index := 2#32
  let c2_58 : Index := 2#32
  ![v119.toNat, 2, 2]
def k0_off16 (i : grid0.Coords) : Fin 3 → Nat :=
  let arg1 : BitVec 32 := BitVec.ofNat 32 (i 1).val
  let v121 : Index := Scalar.indexCast arg1
  let c2_59 : Index := 2#32
  let c3_60 : Index := 3#32
  ![v121.toNat, 2, 3]
def k0_off17 (i : grid0.Coords) : Fin 3 → Nat :=
  let arg1 : BitVec 32 := BitVec.ofNat 32 (i 1).val
  let v123 : Index := Scalar.indexCast arg1
  let c2_61 : Index := 2#32
  let c4_62 : Index := 4#32
  ![v123.toNat, 2, 4]
def k0_off18 (i : grid0.Coords) : Fin 3 → Nat :=
  let arg1 : BitVec 32 := BitVec.ofNat 32 (i 1).val
  let v164 : Index := Scalar.indexCast arg1
  let c2_74 : Index := 2#32
  let c5_75 : Index := 5#32
  ![v164.toNat, 2, 5]
def k0_off19 (i : grid0.Coords) : Fin 3 → Nat :=
  let arg1 : BitVec 32 := BitVec.ofNat 32 (i 1).val
  let v168 : Index := Scalar.indexCast arg1
  let c3_76 : Index := 3#32
  let c0_77 : Index := 0#32
  ![v168.toNat, 3, 0]
def k0_off20 (i : grid0.Coords) : Fin 3 → Nat :=
  let arg1 : BitVec 32 := BitVec.ofNat 32 (i 1).val
  let v170 : Index := Scalar.indexCast arg1
  let c3_78 : Index := 3#32
  let c1_79 : Index := 1#32
  ![v170.toNat, 3, 1]
def k0_off21 (i : grid0.Coords) : Fin 3 → Nat :=
  let arg1 : BitVec 32 := BitVec.ofNat 32 (i 1).val
  let v172 : Index := Scalar.indexCast arg1
  let c3_80 : Index := 3#32
  let c2_81 : Index := 2#32
  ![v172.toNat, 3, 2]
def k0_off22 (i : grid0.Coords) : Fin 3 → Nat :=
  let arg1 : BitVec 32 := BitVec.ofNat 32 (i 1).val
  let v174 : Index := Scalar.indexCast arg1
  let c3_82 : Index := 3#32
  let c3_83 : Index := 3#32
  ![v174.toNat, 3, 3]
def k0_off23 (i : grid0.Coords) : Fin 3 → Nat :=
  let arg1 : BitVec 32 := BitVec.ofNat 32 (i 1).val
  let v176 : Index := Scalar.indexCast arg1
  let c3_84 : Index := 3#32
  let c4_85 : Index := 4#32
  ![v176.toNat, 3, 4]
def k0_off24 (i : grid0.Coords) : Fin 3 → Nat :=
  let arg1 : BitVec 32 := BitVec.ofNat 32 (i 1).val
  let v217 : Index := Scalar.indexCast arg1
  let c3_97 : Index := 3#32
  let c5_98 : Index := 5#32
  ![v217.toNat, 3, 5]
def k0_off25 (i : grid0.Coords) : Fin 3 → Nat :=
  let arg1 : BitVec 32 := BitVec.ofNat 32 (i 1).val
  let v221 : Index := Scalar.indexCast arg1
  let c4_99 : Index := 4#32
  let c0_100 : Index := 0#32
  ![v221.toNat, 4, 0]
def k0_off26 (i : grid0.Coords) : Fin 3 → Nat :=
  let arg1 : BitVec 32 := BitVec.ofNat 32 (i 1).val
  let v223 : Index := Scalar.indexCast arg1
  let c4_101 : Index := 4#32
  let c1_102 : Index := 1#32
  ![v223.toNat, 4, 1]
def k0_off27 (i : grid0.Coords) : Fin 3 → Nat :=
  let arg1 : BitVec 32 := BitVec.ofNat 32 (i 1).val
  let v225 : Index := Scalar.indexCast arg1
  let c4_103 : Index := 4#32
  let c2_104 : Index := 2#32
  ![v225.toNat, 4, 2]
def k0_off28 (i : grid0.Coords) : Fin 3 → Nat :=
  let arg1 : BitVec 32 := BitVec.ofNat 32 (i 1).val
  let v227 : Index := Scalar.indexCast arg1
  let c4_105 : Index := 4#32
  let c3_106 : Index := 3#32
  ![v227.toNat, 4, 3]
def k0_off29 (i : grid0.Coords) : Fin 3 → Nat :=
  let arg1 : BitVec 32 := BitVec.ofNat 32 (i 1).val
  let v229 : Index := Scalar.indexCast arg1
  let c4_107 : Index := 4#32
  let c4_108 : Index := 4#32
  ![v229.toNat, 4, 4]
def k0_off30 (i : grid0.Coords) : Fin 3 → Nat :=
  let arg1 : BitVec 32 := BitVec.ofNat 32 (i 1).val
  let v270 : Index := Scalar.indexCast arg1
  let c4_120 : Index := 4#32
  let c5_121 : Index := 5#32
  ![v270.toNat, 4, 5]
def k0_off31 (i : grid0.Coords) : Fin 3 → Nat :=
  let arg1 : BitVec 32 := BitVec.ofNat 32 (i 1).val
  let v274 : Index := Scalar.indexCast arg1
  let c5_122 : Index := 5#32
  let c0_123 : Index := 0#32
  ![v274.toNat, 5, 0]
def k0_off32 (i : grid0.Coords) : Fin 3 → Nat :=
  let arg1 : BitVec 32 := BitVec.ofNat 32 (i 1).val
  let v276 : Index := Scalar.indexCast arg1
  let c5_124 : Index := 5#32
  let c1_125 : Index := 1#32
  ![v276.toNat, 5, 1]
def k0_off33 (i : grid0.Coords) : Fin 3 → Nat :=
  let arg1 : BitVec 32 := BitVec.ofNat 32 (i 1).val
  let v278 : Index := Scalar.indexCast arg1
  let c5_126 : Index := 5#32
  let c2_127 : Index := 2#32
  ![v278.toNat, 5, 2]
def k0_off34 (i : grid0.Coords) : Fin 3 → Nat :=
  let arg1 : BitVec 32 := BitVec.ofNat 32 (i 1).val
  let v280 : Index := Scalar.indexCast arg1
  let c5_128 : Index := 5#32
  let c3_129 : Index := 3#32
  ![v280.toNat, 5, 3]
def k0_off35 (i : grid0.Coords) : Fin 3 → Nat :=
  let arg1 : BitVec 32 := BitVec.ofNat 32 (i 1).val
  let v282 : Index := Scalar.indexCast arg1
  let c5_130 : Index := 5#32
  let c4_131 : Index := 4#32
  ![v282.toNat, 5, 4]
def k0_off36 (i : grid0.Coords) : Fin 3 → Nat :=
  let arg1 : BitVec 32 := BitVec.ofNat 32 (i 1).val
  let v323 : Index := Scalar.indexCast arg1
  let c5_143 : Index := 5#32
  let c5_144 : Index := 5#32
  ![v323.toNat, 5, 5]
def k0_off37 (i : grid0.Coords) : Fin 3 → Nat :=
  let arg1 : BitVec 32 := BitVec.ofNat 32 (i 1).val
  let v327 : Index := Scalar.indexCast arg1
  let c6 : Index := 6#32
  let c0_145 : Index := 0#32
  ![v327.toNat, 6, 0]
def k0_off38 (i : grid0.Coords) : Fin 3 → Nat :=
  let arg1 : BitVec 32 := BitVec.ofNat 32 (i 1).val
  let v329 : Index := Scalar.indexCast arg1
  let c6_146 : Index := 6#32
  let c1_147 : Index := 1#32
  ![v329.toNat, 6, 1]
def k0_off39 (i : grid0.Coords) : Fin 3 → Nat :=
  let arg1 : BitVec 32 := BitVec.ofNat 32 (i 1).val
  let v331 : Index := Scalar.indexCast arg1
  let c6_148 : Index := 6#32
  let c2_149 : Index := 2#32
  ![v331.toNat, 6, 2]
def k0_off40 (i : grid0.Coords) : Fin 3 → Nat :=
  let arg1 : BitVec 32 := BitVec.ofNat 32 (i 1).val
  let v333 : Index := Scalar.indexCast arg1
  let c6_150 : Index := 6#32
  let c3_151 : Index := 3#32
  ![v333.toNat, 6, 3]
def k0_off41 (i : grid0.Coords) : Fin 3 → Nat :=
  let arg1 : BitVec 32 := BitVec.ofNat 32 (i 1).val
  let v335 : Index := Scalar.indexCast arg1
  let c6_152 : Index := 6#32
  let c4_153 : Index := 4#32
  ![v335.toNat, 6, 4]
def k0_off42 (i : grid0.Coords) : Fin 3 → Nat :=
  let arg1 : BitVec 32 := BitVec.ofNat 32 (i 1).val
  let v376 : Index := Scalar.indexCast arg1
  let c6_165 : Index := 6#32
  let c5_166 : Index := 5#32
  ![v376.toNat, 6, 5]
def k0_off43 (i : grid0.Coords) : Fin 3 → Nat :=
  let arg1 : BitVec 32 := BitVec.ofNat 32 (i 1).val
  let v380 : Index := Scalar.indexCast arg1
  let c7 : Index := 7#32
  let c0_167 : Index := 0#32
  ![v380.toNat, 7, 0]
def k0_off44 (i : grid0.Coords) : Fin 3 → Nat :=
  let arg1 : BitVec 32 := BitVec.ofNat 32 (i 1).val
  let v382 : Index := Scalar.indexCast arg1
  let c7_168 : Index := 7#32
  let c1_169 : Index := 1#32
  ![v382.toNat, 7, 1]
def k0_off45 (i : grid0.Coords) : Fin 3 → Nat :=
  let arg1 : BitVec 32 := BitVec.ofNat 32 (i 1).val
  let v384 : Index := Scalar.indexCast arg1
  let c7_170 : Index := 7#32
  let c2_171 : Index := 2#32
  ![v384.toNat, 7, 2]
def k0_off46 (i : grid0.Coords) : Fin 3 → Nat :=
  let arg1 : BitVec 32 := BitVec.ofNat 32 (i 1).val
  let v386 : Index := Scalar.indexCast arg1
  let c7_172 : Index := 7#32
  let c3_173 : Index := 3#32
  ![v386.toNat, 7, 3]
def k0_off47 (i : grid0.Coords) : Fin 3 → Nat :=
  let arg1 : BitVec 32 := BitVec.ofNat 32 (i 1).val
  let v388 : Index := Scalar.indexCast arg1
  let c7_174 : Index := 7#32
  let c4_175 : Index := 4#32
  ![v388.toNat, 7, 4]
def k0_off48 (i : grid0.Coords) : Fin 3 → Nat :=
  let arg1 : BitVec 32 := BitVec.ofNat 32 (i 1).val
  let v429 : Index := Scalar.indexCast arg1
  let c7_187 : Index := 7#32
  let c5_188 : Index := 5#32
  ![v429.toNat, 7, 5]
def k0_off49 (i : grid0.Coords) : Fin 3 → Nat :=
  let arg1 : BitVec 32 := BitVec.ofNat 32 (i 1).val
  let v433 : Index := Scalar.indexCast arg1
  let c8 : Index := 8#32
  let c0_189 : Index := 0#32
  ![v433.toNat, 8, 0]
def k0_off50 (i : grid0.Coords) : Fin 3 → Nat :=
  let arg1 : BitVec 32 := BitVec.ofNat 32 (i 1).val
  let v435 : Index := Scalar.indexCast arg1
  let c8_190 : Index := 8#32
  let c1_191 : Index := 1#32
  ![v435.toNat, 8, 1]
def k0_off51 (i : grid0.Coords) : Fin 3 → Nat :=
  let arg1 : BitVec 32 := BitVec.ofNat 32 (i 1).val
  let v437 : Index := Scalar.indexCast arg1
  let c8_192 : Index := 8#32
  let c2_193 : Index := 2#32
  ![v437.toNat, 8, 2]
def k0_off52 (i : grid0.Coords) : Fin 3 → Nat :=
  let arg1 : BitVec 32 := BitVec.ofNat 32 (i 1).val
  let v439 : Index := Scalar.indexCast arg1
  let c8_194 : Index := 8#32
  let c3_195 : Index := 3#32
  ![v439.toNat, 8, 3]
def k0_off53 (i : grid0.Coords) : Fin 3 → Nat :=
  let arg1 : BitVec 32 := BitVec.ofNat 32 (i 1).val
  let v441 : Index := Scalar.indexCast arg1
  let c8_196 : Index := 8#32
  let c4_197 : Index := 4#32
  ![v441.toNat, 8, 4]
def k0_off54 (i : grid0.Coords) : Fin 3 → Nat :=
  let arg1 : BitVec 32 := BitVec.ofNat 32 (i 1).val
  let v482 : Index := Scalar.indexCast arg1
  let c8_209 : Index := 8#32
  let c5_210 : Index := 5#32
  ![v482.toNat, 8, 5]
def k0_off55 (i : grid0.Coords) : Fin 3 → Nat :=
  let arg1 : BitVec 32 := BitVec.ofNat 32 (i 1).val
  let v486 : Index := Scalar.indexCast arg1
  let c9 : Index := 9#32
  let c0_211 : Index := 0#32
  ![v486.toNat, 9, 0]
def k0_off56 (i : grid0.Coords) : Fin 3 → Nat :=
  let arg1 : BitVec 32 := BitVec.ofNat 32 (i 1).val
  let v488 : Index := Scalar.indexCast arg1
  let c9_212 : Index := 9#32
  let c1_213 : Index := 1#32
  ![v488.toNat, 9, 1]
def k0_off57 (i : grid0.Coords) : Fin 3 → Nat :=
  let arg1 : BitVec 32 := BitVec.ofNat 32 (i 1).val
  let v490 : Index := Scalar.indexCast arg1
  let c9_214 : Index := 9#32
  let c2_215 : Index := 2#32
  ![v490.toNat, 9, 2]
def k0_off58 (i : grid0.Coords) : Fin 3 → Nat :=
  let arg1 : BitVec 32 := BitVec.ofNat 32 (i 1).val
  let v492 : Index := Scalar.indexCast arg1
  let c9_216 : Index := 9#32
  let c3_217 : Index := 3#32
  ![v492.toNat, 9, 3]
def k0_off59 (i : grid0.Coords) : Fin 3 → Nat :=
  let arg1 : BitVec 32 := BitVec.ofNat 32 (i 1).val
  let v494 : Index := Scalar.indexCast arg1
  let c9_218 : Index := 9#32
  let c4_219 : Index := 4#32
  ![v494.toNat, 9, 4]
def k0_off60 (i : grid0.Coords) : Fin 3 → Nat :=
  let arg1 : BitVec 32 := BitVec.ofNat 32 (i 1).val
  let v535 : Index := Scalar.indexCast arg1
  let c9_231 : Index := 9#32
  let c5_232 : Index := 5#32
  ![v535.toNat, 9, 5]
def k0_off61 (i : grid0.Coords) : Fin 3 → Nat :=
  let arg1 : BitVec 32 := BitVec.ofNat 32 (i 1).val
  let v539 : Index := Scalar.indexCast arg1
  let c10 : Index := 10#32
  let c0_233 : Index := 0#32
  ![v539.toNat, 10, 0]
def k0_off62 (i : grid0.Coords) : Fin 3 → Nat :=
  let arg1 : BitVec 32 := BitVec.ofNat 32 (i 1).val
  let v541 : Index := Scalar.indexCast arg1
  let c10_234 : Index := 10#32
  let c1_235 : Index := 1#32
  ![v541.toNat, 10, 1]
def k0_off63 (i : grid0.Coords) : Fin 3 → Nat :=
  let arg1 : BitVec 32 := BitVec.ofNat 32 (i 1).val
  let v543 : Index := Scalar.indexCast arg1
  let c10_236 : Index := 10#32
  let c2_237 : Index := 2#32
  ![v543.toNat, 10, 2]
def k0_off64 (i : grid0.Coords) : Fin 3 → Nat :=
  let arg1 : BitVec 32 := BitVec.ofNat 32 (i 1).val
  let v545 : Index := Scalar.indexCast arg1
  let c10_238 : Index := 10#32
  let c3_239 : Index := 3#32
  ![v545.toNat, 10, 3]
def k0_off65 (i : grid0.Coords) : Fin 3 → Nat :=
  let arg1 : BitVec 32 := BitVec.ofNat 32 (i 1).val
  let v547 : Index := Scalar.indexCast arg1
  let c10_240 : Index := 10#32
  let c4_241 : Index := 4#32
  ![v547.toNat, 10, 4]
def k0_off66 (i : grid0.Coords) : Fin 3 → Nat :=
  let arg1 : BitVec 32 := BitVec.ofNat 32 (i 1).val
  let v588 : Index := Scalar.indexCast arg1
  let c10_253 : Index := 10#32
  let c5_254 : Index := 5#32
  ![v588.toNat, 10, 5]
def k0_off67 (i : grid0.Coords) : Fin 3 → Nat :=
  let arg1 : BitVec 32 := BitVec.ofNat 32 (i 1).val
  let v592 : Index := Scalar.indexCast arg1
  let c11 : Index := 11#32
  let c0_255 : Index := 0#32
  ![v592.toNat, 11, 0]
def k0_off68 (i : grid0.Coords) : Fin 3 → Nat :=
  let arg1 : BitVec 32 := BitVec.ofNat 32 (i 1).val
  let v594 : Index := Scalar.indexCast arg1
  let c11_256 : Index := 11#32
  let c1_257 : Index := 1#32
  ![v594.toNat, 11, 1]
def k0_off69 (i : grid0.Coords) : Fin 3 → Nat :=
  let arg1 : BitVec 32 := BitVec.ofNat 32 (i 1).val
  let v596 : Index := Scalar.indexCast arg1
  let c11_258 : Index := 11#32
  let c2_259 : Index := 2#32
  ![v596.toNat, 11, 2]
def k0_off70 (i : grid0.Coords) : Fin 3 → Nat :=
  let arg1 : BitVec 32 := BitVec.ofNat 32 (i 1).val
  let v598 : Index := Scalar.indexCast arg1
  let c11_260 : Index := 11#32
  let c3_261 : Index := 3#32
  ![v598.toNat, 11, 3]
def k0_off71 (i : grid0.Coords) : Fin 3 → Nat :=
  let arg1 : BitVec 32 := BitVec.ofNat 32 (i 1).val
  let v600 : Index := Scalar.indexCast arg1
  let c11_262 : Index := 11#32
  let c4_263 : Index := 4#32
  ![v600.toNat, 11, 4]
def k0_off72 (i : grid0.Coords) : Fin 3 → Nat :=
  let arg1 : BitVec 32 := BitVec.ofNat 32 (i 1).val
  let v641 : Index := Scalar.indexCast arg1
  let c11_275 : Index := 11#32
  let c5_276 : Index := 5#32
  ![v641.toNat, 11, 5]
def k0_off73 (i : grid0.Coords) : Fin 3 → Nat :=
  let arg1 : BitVec 32 := BitVec.ofNat 32 (i 1).val
  let v645 : Index := Scalar.indexCast arg1
  let c12 : Index := 12#32
  let c0_277 : Index := 0#32
  ![v645.toNat, 12, 0]
def k0_off74 (i : grid0.Coords) : Fin 3 → Nat :=
  let arg1 : BitVec 32 := BitVec.ofNat 32 (i 1).val
  let v647 : Index := Scalar.indexCast arg1
  let c12_278 : Index := 12#32
  let c1_279 : Index := 1#32
  ![v647.toNat, 12, 1]
def k0_off75 (i : grid0.Coords) : Fin 3 → Nat :=
  let arg1 : BitVec 32 := BitVec.ofNat 32 (i 1).val
  let v649 : Index := Scalar.indexCast arg1
  let c12_280 : Index := 12#32
  let c2_281 : Index := 2#32
  ![v649.toNat, 12, 2]
def k0_off76 (i : grid0.Coords) : Fin 3 → Nat :=
  let arg1 : BitVec 32 := BitVec.ofNat 32 (i 1).val
  let v651 : Index := Scalar.indexCast arg1
  let c12_282 : Index := 12#32
  let c3_283 : Index := 3#32
  ![v651.toNat, 12, 3]
def k0_off77 (i : grid0.Coords) : Fin 3 → Nat :=
  let arg1 : BitVec 32 := BitVec.ofNat 32 (i 1).val
  let v653 : Index := Scalar.indexCast arg1
  let c12_284 : Index := 12#32
  let c4_285 : Index := 4#32
  ![v653.toNat, 12, 4]
def k0_off78 (i : grid0.Coords) : Fin 3 → Nat :=
  let arg1 : BitVec 32 := BitVec.ofNat 32 (i 1).val
  let v694 : Index := Scalar.indexCast arg1
  let c12_297 : Index := 12#32
  let c5_298 : Index := 5#32
  ![v694.toNat, 12, 5]
def k0_off79 (i : grid0.Coords) : Fin 3 → Nat :=
  let arg1 : BitVec 32 := BitVec.ofNat 32 (i 1).val
  let v698 : Index := Scalar.indexCast arg1
  let c13 : Index := 13#32
  let c0_299 : Index := 0#32
  ![v698.toNat, 13, 0]
def k0_off80 (i : grid0.Coords) : Fin 3 → Nat :=
  let arg1 : BitVec 32 := BitVec.ofNat 32 (i 1).val
  let v700 : Index := Scalar.indexCast arg1
  let c13_300 : Index := 13#32
  let c1_301 : Index := 1#32
  ![v700.toNat, 13, 1]
def k0_off81 (i : grid0.Coords) : Fin 3 → Nat :=
  let arg1 : BitVec 32 := BitVec.ofNat 32 (i 1).val
  let v702 : Index := Scalar.indexCast arg1
  let c13_302 : Index := 13#32
  let c2_303 : Index := 2#32
  ![v702.toNat, 13, 2]
def k0_off82 (i : grid0.Coords) : Fin 3 → Nat :=
  let arg1 : BitVec 32 := BitVec.ofNat 32 (i 1).val
  let v704 : Index := Scalar.indexCast arg1
  let c13_304 : Index := 13#32
  let c3_305 : Index := 3#32
  ![v704.toNat, 13, 3]
def k0_off83 (i : grid0.Coords) : Fin 3 → Nat :=
  let arg1 : BitVec 32 := BitVec.ofNat 32 (i 1).val
  let v706 : Index := Scalar.indexCast arg1
  let c13_306 : Index := 13#32
  let c4_307 : Index := 4#32
  ![v706.toNat, 13, 4]
def k0_off84 (i : grid0.Coords) : Fin 3 → Nat :=
  let arg1 : BitVec 32 := BitVec.ofNat 32 (i 1).val
  let v747 : Index := Scalar.indexCast arg1
  let c13_319 : Index := 13#32
  let c5_320 : Index := 5#32
  ![v747.toNat, 13, 5]
def k0_off85 (i : grid0.Coords) : Fin 3 → Nat :=
  let arg1 : BitVec 32 := BitVec.ofNat 32 (i 1).val
  let v751 : Index := Scalar.indexCast arg1
  let c14 : Index := 14#32
  let c0_321 : Index := 0#32
  ![v751.toNat, 14, 0]
def k0_off86 (i : grid0.Coords) : Fin 3 → Nat :=
  let arg1 : BitVec 32 := BitVec.ofNat 32 (i 1).val
  let v753 : Index := Scalar.indexCast arg1
  let c14_322 : Index := 14#32
  let c1_323 : Index := 1#32
  ![v753.toNat, 14, 1]
def k0_off87 (i : grid0.Coords) : Fin 3 → Nat :=
  let arg1 : BitVec 32 := BitVec.ofNat 32 (i 1).val
  let v755 : Index := Scalar.indexCast arg1
  let c14_324 : Index := 14#32
  let c2_325 : Index := 2#32
  ![v755.toNat, 14, 2]
def k0_off88 (i : grid0.Coords) : Fin 3 → Nat :=
  let arg1 : BitVec 32 := BitVec.ofNat 32 (i 1).val
  let v757 : Index := Scalar.indexCast arg1
  let c14_326 : Index := 14#32
  let c3_327 : Index := 3#32
  ![v757.toNat, 14, 3]
def k0_off89 (i : grid0.Coords) : Fin 3 → Nat :=
  let arg1 : BitVec 32 := BitVec.ofNat 32 (i 1).val
  let v759 : Index := Scalar.indexCast arg1
  let c14_328 : Index := 14#32
  let c4_329 : Index := 4#32
  ![v759.toNat, 14, 4]
def k0_off90 (i : grid0.Coords) : Fin 3 → Nat :=
  let arg1 : BitVec 32 := BitVec.ofNat 32 (i 1).val
  let v800 : Index := Scalar.indexCast arg1
  let c14_341 : Index := 14#32
  let c5_342 : Index := 5#32
  ![v800.toNat, 14, 5]
def k0_off91 (i : grid0.Coords) : Fin 3 → Nat :=
  let arg1 : BitVec 32 := BitVec.ofNat 32 (i 1).val
  let v804 : Index := Scalar.indexCast arg1
  let c15 : Index := 15#32
  let c0_343 : Index := 0#32
  ![v804.toNat, 15, 0]
def k0_off92 (i : grid0.Coords) : Fin 3 → Nat :=
  let arg1 : BitVec 32 := BitVec.ofNat 32 (i 1).val
  let v806 : Index := Scalar.indexCast arg1
  let c15_344 : Index := 15#32
  let c1_345 : Index := 1#32
  ![v806.toNat, 15, 1]
def k0_off93 (i : grid0.Coords) : Fin 3 → Nat :=
  let arg1 : BitVec 32 := BitVec.ofNat 32 (i 1).val
  let v808 : Index := Scalar.indexCast arg1
  let c15_346 : Index := 15#32
  let c2_347 : Index := 2#32
  ![v808.toNat, 15, 2]
def k0_off94 (i : grid0.Coords) : Fin 3 → Nat :=
  let arg1 : BitVec 32 := BitVec.ofNat 32 (i 1).val
  let v810 : Index := Scalar.indexCast arg1
  let c15_348 : Index := 15#32
  let c3_349 : Index := 3#32
  ![v810.toNat, 15, 3]
def k0_off95 (i : grid0.Coords) : Fin 3 → Nat :=
  let arg1 : BitVec 32 := BitVec.ofNat 32 (i 1).val
  let v812 : Index := Scalar.indexCast arg1
  let c15_350 : Index := 15#32
  let c4_351 : Index := 4#32
  ![v812.toNat, 15, 4]
def k0_off96 (i : grid0.Coords) : Fin 3 → Nat :=
  let arg1 : BitVec 32 := BitVec.ofNat 32 (i 1).val
  let v853 : Index := Scalar.indexCast arg1
  let c15_363 : Index := 15#32
  let c5_364 : Index := 5#32
  ![v853.toNat, 15, 5]
def k0_off97 (i : grid0.Coords) : Fin 3 → Nat :=
  let arg1 : BitVec 32 := BitVec.ofNat 32 (i 1).val
  let v857 : Index := Scalar.indexCast arg1
  let c16 : Index := 16#32
  let c0_365 : Index := 0#32
  ![v857.toNat, 16, 0]
def k0_off98 (i : grid0.Coords) : Fin 3 → Nat :=
  let arg1 : BitVec 32 := BitVec.ofNat 32 (i 1).val
  let v859 : Index := Scalar.indexCast arg1
  let c16_366 : Index := 16#32
  let c1_367 : Index := 1#32
  ![v859.toNat, 16, 1]
def k0_off99 (i : grid0.Coords) : Fin 3 → Nat :=
  let arg1 : BitVec 32 := BitVec.ofNat 32 (i 1).val
  let v861 : Index := Scalar.indexCast arg1
  let c16_368 : Index := 16#32
  let c2_369 : Index := 2#32
  ![v861.toNat, 16, 2]
def k0_off100 (i : grid0.Coords) : Fin 3 → Nat :=
  let arg1 : BitVec 32 := BitVec.ofNat 32 (i 1).val
  let v863 : Index := Scalar.indexCast arg1
  let c16_370 : Index := 16#32
  let c3_371 : Index := 3#32
  ![v863.toNat, 16, 3]
def k0_off101 (i : grid0.Coords) : Fin 3 → Nat :=
  let arg1 : BitVec 32 := BitVec.ofNat 32 (i 1).val
  let v865 : Index := Scalar.indexCast arg1
  let c16_372 : Index := 16#32
  let c4_373 : Index := 4#32
  ![v865.toNat, 16, 4]
def k0_off102 (i : grid0.Coords) : Fin 3 → Nat :=
  let arg1 : BitVec 32 := BitVec.ofNat 32 (i 1).val
  let v906 : Index := Scalar.indexCast arg1
  let c16_385 : Index := 16#32
  let c5_386 : Index := 5#32
  ![v906.toNat, 16, 5]
def k0_off103 (i : grid0.Coords) : Fin 3 → Nat :=
  let arg1 : BitVec 32 := BitVec.ofNat 32 (i 1).val
  let v910 : Index := Scalar.indexCast arg1
  let c17 : Index := 17#32
  let c0_387 : Index := 0#32
  ![v910.toNat, 17, 0]
def k0_off104 (i : grid0.Coords) : Fin 3 → Nat :=
  let arg1 : BitVec 32 := BitVec.ofNat 32 (i 1).val
  let v912 : Index := Scalar.indexCast arg1
  let c17_388 : Index := 17#32
  let c1_389 : Index := 1#32
  ![v912.toNat, 17, 1]
def k0_off105 (i : grid0.Coords) : Fin 3 → Nat :=
  let arg1 : BitVec 32 := BitVec.ofNat 32 (i 1).val
  let v914 : Index := Scalar.indexCast arg1
  let c17_390 : Index := 17#32
  let c2_391 : Index := 2#32
  ![v914.toNat, 17, 2]
def k0_off106 (i : grid0.Coords) : Fin 3 → Nat :=
  let arg1 : BitVec 32 := BitVec.ofNat 32 (i 1).val
  let v916 : Index := Scalar.indexCast arg1
  let c17_392 : Index := 17#32
  let c3_393 : Index := 3#32
  ![v916.toNat, 17, 3]
def k0_off107 (i : grid0.Coords) : Fin 3 → Nat :=
  let arg1 : BitVec 32 := BitVec.ofNat 32 (i 1).val
  let v918 : Index := Scalar.indexCast arg1
  let c17_394 : Index := 17#32
  let c4_395 : Index := 4#32
  ![v918.toNat, 17, 4]
def k0_off108 (i : grid0.Coords) : Fin 3 → Nat :=
  let arg1 : BitVec 32 := BitVec.ofNat 32 (i 1).val
  let v959 : Index := Scalar.indexCast arg1
  let c17_407 : Index := 17#32
  let c5_408 : Index := 5#32
  ![v959.toNat, 17, 5]
def k0_off109 (i : grid0.Coords) : Fin 3 → Nat :=
  let arg1 : BitVec 32 := BitVec.ofNat 32 (i 1).val
  let v963 : Index := Scalar.indexCast arg1
  let c18 : Index := 18#32
  let c0_409 : Index := 0#32
  ![v963.toNat, 18, 0]
def k0_off110 (i : grid0.Coords) : Fin 3 → Nat :=
  let arg1 : BitVec 32 := BitVec.ofNat 32 (i 1).val
  let v965 : Index := Scalar.indexCast arg1
  let c18_410 : Index := 18#32
  let c1_411 : Index := 1#32
  ![v965.toNat, 18, 1]
def k0_off111 (i : grid0.Coords) : Fin 3 → Nat :=
  let arg1 : BitVec 32 := BitVec.ofNat 32 (i 1).val
  let v967 : Index := Scalar.indexCast arg1
  let c18_412 : Index := 18#32
  let c2_413 : Index := 2#32
  ![v967.toNat, 18, 2]
def k0_off112 (i : grid0.Coords) : Fin 3 → Nat :=
  let arg1 : BitVec 32 := BitVec.ofNat 32 (i 1).val
  let v969 : Index := Scalar.indexCast arg1
  let c18_414 : Index := 18#32
  let c3_415 : Index := 3#32
  ![v969.toNat, 18, 3]
def k0_off113 (i : grid0.Coords) : Fin 3 → Nat :=
  let arg1 : BitVec 32 := BitVec.ofNat 32 (i 1).val
  let v971 : Index := Scalar.indexCast arg1
  let c18_416 : Index := 18#32
  let c4_417 : Index := 4#32
  ![v971.toNat, 18, 4]
def k0_off114 (i : grid0.Coords) : Fin 3 → Nat :=
  let arg1 : BitVec 32 := BitVec.ofNat 32 (i 1).val
  let v1012 : Index := Scalar.indexCast arg1
  let c18_429 : Index := 18#32
  let c5_430 : Index := 5#32
  ![v1012.toNat, 18, 5]
def k0_off115 (i : grid0.Coords) : Fin 3 → Nat :=
  let arg1 : BitVec 32 := BitVec.ofNat 32 (i 1).val
  let v1016 : Index := Scalar.indexCast arg1
  let c19 : Index := 19#32
  let c0_431 : Index := 0#32
  ![v1016.toNat, 19, 0]
def k0_off116 (i : grid0.Coords) : Fin 3 → Nat :=
  let arg1 : BitVec 32 := BitVec.ofNat 32 (i 1).val
  let v1018 : Index := Scalar.indexCast arg1
  let c19_432 : Index := 19#32
  let c1_433 : Index := 1#32
  ![v1018.toNat, 19, 1]
def k0_off117 (i : grid0.Coords) : Fin 3 → Nat :=
  let arg1 : BitVec 32 := BitVec.ofNat 32 (i 1).val
  let v1020 : Index := Scalar.indexCast arg1
  let c19_434 : Index := 19#32
  let c2_435 : Index := 2#32
  ![v1020.toNat, 19, 2]
def k0_off118 (i : grid0.Coords) : Fin 3 → Nat :=
  let arg1 : BitVec 32 := BitVec.ofNat 32 (i 1).val
  let v1022 : Index := Scalar.indexCast arg1
  let c19_436 : Index := 19#32
  let c3_437 : Index := 3#32
  ![v1022.toNat, 19, 3]
def k0_off119 (i : grid0.Coords) : Fin 3 → Nat :=
  let arg1 : BitVec 32 := BitVec.ofNat 32 (i 1).val
  let v1024 : Index := Scalar.indexCast arg1
  let c19_438 : Index := 19#32
  let c4_439 : Index := 4#32
  ![v1024.toNat, 19, 4]
def k0_off120 (i : grid0.Coords) : Fin 3 → Nat :=
  let arg1 : BitVec 32 := BitVec.ofNat 32 (i 1).val
  let v1065 : Index := Scalar.indexCast arg1
  let c19_451 : Index := 19#32
  let c5_452 : Index := 5#32
  ![v1065.toNat, 19, 5]
def k0_off121 (i : grid0.Coords) : Fin 3 → Nat :=
  let arg1 : BitVec 32 := BitVec.ofNat 32 (i 1).val
  let v1069 : Index := Scalar.indexCast arg1
  let c20 : Index := 20#32
  let c0_453 : Index := 0#32
  ![v1069.toNat, 20, 0]
def k0_off122 (i : grid0.Coords) : Fin 3 → Nat :=
  let arg1 : BitVec 32 := BitVec.ofNat 32 (i 1).val
  let v1071 : Index := Scalar.indexCast arg1
  let c20_454 : Index := 20#32
  let c1_455 : Index := 1#32
  ![v1071.toNat, 20, 1]
def k0_off123 (i : grid0.Coords) : Fin 3 → Nat :=
  let arg1 : BitVec 32 := BitVec.ofNat 32 (i 1).val
  let v1073 : Index := Scalar.indexCast arg1
  let c20_456 : Index := 20#32
  let c2_457 : Index := 2#32
  ![v1073.toNat, 20, 2]
def k0_off124 (i : grid0.Coords) : Fin 3 → Nat :=
  let arg1 : BitVec 32 := BitVec.ofNat 32 (i 1).val
  let v1075 : Index := Scalar.indexCast arg1
  let c20_458 : Index := 20#32
  let c3_459 : Index := 3#32
  ![v1075.toNat, 20, 3]
def k0_off125 (i : grid0.Coords) : Fin 3 → Nat :=
  let arg1 : BitVec 32 := BitVec.ofNat 32 (i 1).val
  let v1077 : Index := Scalar.indexCast arg1
  let c20_460 : Index := 20#32
  let c4_461 : Index := 4#32
  ![v1077.toNat, 20, 4]
def k0_off126 (i : grid0.Coords) : Fin 3 → Nat :=
  let arg1 : BitVec 32 := BitVec.ofNat 32 (i 1).val
  let v1118 : Index := Scalar.indexCast arg1
  let c20_473 : Index := 20#32
  let c5_474 : Index := 5#32
  ![v1118.toNat, 20, 5]
def k0_off127 (i : grid0.Coords) : Fin 3 → Nat :=
  let arg1 : BitVec 32 := BitVec.ofNat 32 (i 1).val
  let v1122 : Index := Scalar.indexCast arg1
  let c21 : Index := 21#32
  let c0_475 : Index := 0#32
  ![v1122.toNat, 21, 0]
def k0_off128 (i : grid0.Coords) : Fin 3 → Nat :=
  let arg1 : BitVec 32 := BitVec.ofNat 32 (i 1).val
  let v1124 : Index := Scalar.indexCast arg1
  let c21_476 : Index := 21#32
  let c1_477 : Index := 1#32
  ![v1124.toNat, 21, 1]
def k0_off129 (i : grid0.Coords) : Fin 3 → Nat :=
  let arg1 : BitVec 32 := BitVec.ofNat 32 (i 1).val
  let v1126 : Index := Scalar.indexCast arg1
  let c21_478 : Index := 21#32
  let c2_479 : Index := 2#32
  ![v1126.toNat, 21, 2]
def k0_off130 (i : grid0.Coords) : Fin 3 → Nat :=
  let arg1 : BitVec 32 := BitVec.ofNat 32 (i 1).val
  let v1128 : Index := Scalar.indexCast arg1
  let c21_480 : Index := 21#32
  let c3_481 : Index := 3#32
  ![v1128.toNat, 21, 3]
def k0_off131 (i : grid0.Coords) : Fin 3 → Nat :=
  let arg1 : BitVec 32 := BitVec.ofNat 32 (i 1).val
  let v1130 : Index := Scalar.indexCast arg1
  let c21_482 : Index := 21#32
  let c4_483 : Index := 4#32
  ![v1130.toNat, 21, 4]
def k0_off132 (i : grid0.Coords) : Fin 3 → Nat :=
  let arg1 : BitVec 32 := BitVec.ofNat 32 (i 1).val
  let v1171 : Index := Scalar.indexCast arg1
  let c21_495 : Index := 21#32
  let c5_496 : Index := 5#32
  ![v1171.toNat, 21, 5]
def k0_off133 (i : grid0.Coords) : Fin 3 → Nat :=
  let arg1 : BitVec 32 := BitVec.ofNat 32 (i 1).val
  let v1175 : Index := Scalar.indexCast arg1
  let c22 : Index := 22#32
  let c0_497 : Index := 0#32
  ![v1175.toNat, 22, 0]
def k0_off134 (i : grid0.Coords) : Fin 3 → Nat :=
  let arg1 : BitVec 32 := BitVec.ofNat 32 (i 1).val
  let v1177 : Index := Scalar.indexCast arg1
  let c22_498 : Index := 22#32
  let c1_499 : Index := 1#32
  ![v1177.toNat, 22, 1]
def k0_off135 (i : grid0.Coords) : Fin 3 → Nat :=
  let arg1 : BitVec 32 := BitVec.ofNat 32 (i 1).val
  let v1179 : Index := Scalar.indexCast arg1
  let c22_500 : Index := 22#32
  let c2_501 : Index := 2#32
  ![v1179.toNat, 22, 2]
def k0_off136 (i : grid0.Coords) : Fin 3 → Nat :=
  let arg1 : BitVec 32 := BitVec.ofNat 32 (i 1).val
  let v1181 : Index := Scalar.indexCast arg1
  let c22_502 : Index := 22#32
  let c3_503 : Index := 3#32
  ![v1181.toNat, 22, 3]
def k0_off137 (i : grid0.Coords) : Fin 3 → Nat :=
  let arg1 : BitVec 32 := BitVec.ofNat 32 (i 1).val
  let v1183 : Index := Scalar.indexCast arg1
  let c22_504 : Index := 22#32
  let c4_505 : Index := 4#32
  ![v1183.toNat, 22, 4]
def k0_off138 (i : grid0.Coords) : Fin 3 → Nat :=
  let arg1 : BitVec 32 := BitVec.ofNat 32 (i 1).val
  let v1224 : Index := Scalar.indexCast arg1
  let c22_517 : Index := 22#32
  let c5_518 : Index := 5#32
  ![v1224.toNat, 22, 5]
def k0_off139 (i : grid0.Coords) : Fin 3 → Nat :=
  let arg1 : BitVec 32 := BitVec.ofNat 32 (i 1).val
  let v1228 : Index := Scalar.indexCast arg1
  let c23 : Index := 23#32
  let c0_519 : Index := 0#32
  ![v1228.toNat, 23, 0]
def k0_off140 (i : grid0.Coords) : Fin 3 → Nat :=
  let arg1 : BitVec 32 := BitVec.ofNat 32 (i 1).val
  let v1230 : Index := Scalar.indexCast arg1
  let c23_520 : Index := 23#32
  let c1_521 : Index := 1#32
  ![v1230.toNat, 23, 1]
def k0_off141 (i : grid0.Coords) : Fin 3 → Nat :=
  let arg1 : BitVec 32 := BitVec.ofNat 32 (i 1).val
  let v1232 : Index := Scalar.indexCast arg1
  let c23_522 : Index := 23#32
  let c2_523 : Index := 2#32
  ![v1232.toNat, 23, 2]
def k0_off142 (i : grid0.Coords) : Fin 3 → Nat :=
  let arg1 : BitVec 32 := BitVec.ofNat 32 (i 1).val
  let v1234 : Index := Scalar.indexCast arg1
  let c23_524 : Index := 23#32
  let c3_525 : Index := 3#32
  ![v1234.toNat, 23, 3]
def k0_off143 (i : grid0.Coords) : Fin 3 → Nat :=
  let arg1 : BitVec 32 := BitVec.ofNat 32 (i 1).val
  let v1236 : Index := Scalar.indexCast arg1
  let c23_526 : Index := 23#32
  let c4_527 : Index := 4#32
  ![v1236.toNat, 23, 4]
def k0_off144 (i : grid0.Coords) : Fin 3 → Nat :=
  let arg1 : BitVec 32 := BitVec.ofNat 32 (i 1).val
  let v1277 : Index := Scalar.indexCast arg1
  let c23_539 : Index := 23#32
  let c5_540 : Index := 5#32
  ![v1277.toNat, 23, 5]
def k0_off145 (i : grid0.Coords) : Fin 3 → Nat :=
  let arg1 : BitVec 32 := BitVec.ofNat 32 (i 1).val
  let v1281 : Index := Scalar.indexCast arg1
  let c24 : Index := 24#32
  let c0_541 : Index := 0#32
  ![v1281.toNat, 24, 0]
def k0_off146 (i : grid0.Coords) : Fin 3 → Nat :=
  let arg1 : BitVec 32 := BitVec.ofNat 32 (i 1).val
  let v1283 : Index := Scalar.indexCast arg1
  let c24_542 : Index := 24#32
  let c1_543 : Index := 1#32
  ![v1283.toNat, 24, 1]
def k0_off147 (i : grid0.Coords) : Fin 3 → Nat :=
  let arg1 : BitVec 32 := BitVec.ofNat 32 (i 1).val
  let v1285 : Index := Scalar.indexCast arg1
  let c24_544 : Index := 24#32
  let c2_545 : Index := 2#32
  ![v1285.toNat, 24, 2]
def k0_off148 (i : grid0.Coords) : Fin 3 → Nat :=
  let arg1 : BitVec 32 := BitVec.ofNat 32 (i 1).val
  let v1287 : Index := Scalar.indexCast arg1
  let c24_546 : Index := 24#32
  let c3_547 : Index := 3#32
  ![v1287.toNat, 24, 3]
def k0_off149 (i : grid0.Coords) : Fin 3 → Nat :=
  let arg1 : BitVec 32 := BitVec.ofNat 32 (i 1).val
  let v1289 : Index := Scalar.indexCast arg1
  let c24_548 : Index := 24#32
  let c4_549 : Index := 4#32
  ![v1289.toNat, 24, 4]
def k0_off150 (i : grid0.Coords) : Fin 3 → Nat :=
  let arg1 : BitVec 32 := BitVec.ofNat 32 (i 1).val
  let v1330 : Index := Scalar.indexCast arg1
  let c24_561 : Index := 24#32
  let c5_562 : Index := 5#32
  ![v1330.toNat, 24, 5]
def k0_off151 (i : grid0.Coords) : Fin 3 → Nat :=
  let arg1 : BitVec 32 := BitVec.ofNat 32 (i 1).val
  let v1334 : Index := Scalar.indexCast arg1
  let c25 : Index := 25#32
  let c0_563 : Index := 0#32
  ![v1334.toNat, 25, 0]
def k0_off152 (i : grid0.Coords) : Fin 3 → Nat :=
  let arg1 : BitVec 32 := BitVec.ofNat 32 (i 1).val
  let v1336 : Index := Scalar.indexCast arg1
  let c25_564 : Index := 25#32
  let c1_565 : Index := 1#32
  ![v1336.toNat, 25, 1]
def k0_off153 (i : grid0.Coords) : Fin 3 → Nat :=
  let arg1 : BitVec 32 := BitVec.ofNat 32 (i 1).val
  let v1338 : Index := Scalar.indexCast arg1
  let c25_566 : Index := 25#32
  let c2_567 : Index := 2#32
  ![v1338.toNat, 25, 2]
def k0_off154 (i : grid0.Coords) : Fin 3 → Nat :=
  let arg1 : BitVec 32 := BitVec.ofNat 32 (i 1).val
  let v1340 : Index := Scalar.indexCast arg1
  let c25_568 : Index := 25#32
  let c3_569 : Index := 3#32
  ![v1340.toNat, 25, 3]
def k0_off155 (i : grid0.Coords) : Fin 3 → Nat :=
  let arg1 : BitVec 32 := BitVec.ofNat 32 (i 1).val
  let v1342 : Index := Scalar.indexCast arg1
  let c25_570 : Index := 25#32
  let c4_571 : Index := 4#32
  ![v1342.toNat, 25, 4]
def k0_off156 (i : grid0.Coords) : Fin 3 → Nat :=
  let arg1 : BitVec 32 := BitVec.ofNat 32 (i 1).val
  let v1383 : Index := Scalar.indexCast arg1
  let c25_583 : Index := 25#32
  let c5_584 : Index := 5#32
  ![v1383.toNat, 25, 5]
def k0_off157 (i : grid0.Coords) : Fin 3 → Nat :=
  let arg1 : BitVec 32 := BitVec.ofNat 32 (i 1).val
  let v1387 : Index := Scalar.indexCast arg1
  let c26 : Index := 26#32
  let c0_585 : Index := 0#32
  ![v1387.toNat, 26, 0]
def k0_off158 (i : grid0.Coords) : Fin 3 → Nat :=
  let arg1 : BitVec 32 := BitVec.ofNat 32 (i 1).val
  let v1389 : Index := Scalar.indexCast arg1
  let c26_586 : Index := 26#32
  let c1_587 : Index := 1#32
  ![v1389.toNat, 26, 1]
def k0_off159 (i : grid0.Coords) : Fin 3 → Nat :=
  let arg1 : BitVec 32 := BitVec.ofNat 32 (i 1).val
  let v1391 : Index := Scalar.indexCast arg1
  let c26_588 : Index := 26#32
  let c2_589 : Index := 2#32
  ![v1391.toNat, 26, 2]
def k0_off160 (i : grid0.Coords) : Fin 3 → Nat :=
  let arg1 : BitVec 32 := BitVec.ofNat 32 (i 1).val
  let v1393 : Index := Scalar.indexCast arg1
  let c26_590 : Index := 26#32
  let c3_591 : Index := 3#32
  ![v1393.toNat, 26, 3]
def k0_off161 (i : grid0.Coords) : Fin 3 → Nat :=
  let arg1 : BitVec 32 := BitVec.ofNat 32 (i 1).val
  let v1395 : Index := Scalar.indexCast arg1
  let c26_592 : Index := 26#32
  let c4_593 : Index := 4#32
  ![v1395.toNat, 26, 4]
def k0_off162 (i : grid0.Coords) : Fin 3 → Nat :=
  let arg1 : BitVec 32 := BitVec.ofNat 32 (i 1).val
  let v1436 : Index := Scalar.indexCast arg1
  let c26_605 : Index := 26#32
  let c5_606 : Index := 5#32
  ![v1436.toNat, 26, 5]
def k0_off163 (i : grid0.Coords) : Fin 3 → Nat :=
  let arg1 : BitVec 32 := BitVec.ofNat 32 (i 1).val
  let v1440 : Index := Scalar.indexCast arg1
  let c27 : Index := 27#32
  let c0_607 : Index := 0#32
  ![v1440.toNat, 27, 0]
def k0_off164 (i : grid0.Coords) : Fin 3 → Nat :=
  let arg1 : BitVec 32 := BitVec.ofNat 32 (i 1).val
  let v1442 : Index := Scalar.indexCast arg1
  let c27_608 : Index := 27#32
  let c1_609 : Index := 1#32
  ![v1442.toNat, 27, 1]
def k0_off165 (i : grid0.Coords) : Fin 3 → Nat :=
  let arg1 : BitVec 32 := BitVec.ofNat 32 (i 1).val
  let v1444 : Index := Scalar.indexCast arg1
  let c27_610 : Index := 27#32
  let c2_611 : Index := 2#32
  ![v1444.toNat, 27, 2]
def k0_off166 (i : grid0.Coords) : Fin 3 → Nat :=
  let arg1 : BitVec 32 := BitVec.ofNat 32 (i 1).val
  let v1446 : Index := Scalar.indexCast arg1
  let c27_612 : Index := 27#32
  let c3_613 : Index := 3#32
  ![v1446.toNat, 27, 3]
def k0_off167 (i : grid0.Coords) : Fin 3 → Nat :=
  let arg1 : BitVec 32 := BitVec.ofNat 32 (i 1).val
  let v1448 : Index := Scalar.indexCast arg1
  let c27_614 : Index := 27#32
  let c4_615 : Index := 4#32
  ![v1448.toNat, 27, 4]
def k0_off168 (i : grid0.Coords) : Fin 3 → Nat :=
  let arg1 : BitVec 32 := BitVec.ofNat 32 (i 1).val
  let v1489 : Index := Scalar.indexCast arg1
  let c27_627 : Index := 27#32
  let c5_628 : Index := 5#32
  ![v1489.toNat, 27, 5]
def k0_off169 (i : grid0.Coords) : Fin 3 → Nat :=
  let arg1 : BitVec 32 := BitVec.ofNat 32 (i 1).val
  let v1493 : Index := Scalar.indexCast arg1
  let c28 : Index := 28#32
  let c0_629 : Index := 0#32
  ![v1493.toNat, 28, 0]
def k0_off170 (i : grid0.Coords) : Fin 3 → Nat :=
  let arg1 : BitVec 32 := BitVec.ofNat 32 (i 1).val
  let v1495 : Index := Scalar.indexCast arg1
  let c28_630 : Index := 28#32
  let c1_631 : Index := 1#32
  ![v1495.toNat, 28, 1]
def k0_off171 (i : grid0.Coords) : Fin 3 → Nat :=
  let arg1 : BitVec 32 := BitVec.ofNat 32 (i 1).val
  let v1497 : Index := Scalar.indexCast arg1
  let c28_632 : Index := 28#32
  let c2_633 : Index := 2#32
  ![v1497.toNat, 28, 2]
def k0_off172 (i : grid0.Coords) : Fin 3 → Nat :=
  let arg1 : BitVec 32 := BitVec.ofNat 32 (i 1).val
  let v1499 : Index := Scalar.indexCast arg1
  let c28_634 : Index := 28#32
  let c3_635 : Index := 3#32
  ![v1499.toNat, 28, 3]
def k0_off173 (i : grid0.Coords) : Fin 3 → Nat :=
  let arg1 : BitVec 32 := BitVec.ofNat 32 (i 1).val
  let v1501 : Index := Scalar.indexCast arg1
  let c28_636 : Index := 28#32
  let c4_637 : Index := 4#32
  ![v1501.toNat, 28, 4]
def k0_off174 (i : grid0.Coords) : Fin 3 → Nat :=
  let arg1 : BitVec 32 := BitVec.ofNat 32 (i 1).val
  let v1542 : Index := Scalar.indexCast arg1
  let c28_649 : Index := 28#32
  let c5_650 : Index := 5#32
  ![v1542.toNat, 28, 5]
def k0_off175 (i : grid0.Coords) : Fin 3 → Nat :=
  let arg1 : BitVec 32 := BitVec.ofNat 32 (i 1).val
  let v1546 : Index := Scalar.indexCast arg1
  let c29 : Index := 29#32
  let c0_651 : Index := 0#32
  ![v1546.toNat, 29, 0]
def k0_off176 (i : grid0.Coords) : Fin 3 → Nat :=
  let arg1 : BitVec 32 := BitVec.ofNat 32 (i 1).val
  let v1548 : Index := Scalar.indexCast arg1
  let c29_652 : Index := 29#32
  let c1_653 : Index := 1#32
  ![v1548.toNat, 29, 1]
def k0_off177 (i : grid0.Coords) : Fin 3 → Nat :=
  let arg1 : BitVec 32 := BitVec.ofNat 32 (i 1).val
  let v1550 : Index := Scalar.indexCast arg1
  let c29_654 : Index := 29#32
  let c2_655 : Index := 2#32
  ![v1550.toNat, 29, 2]
def k0_off178 (i : grid0.Coords) : Fin 3 → Nat :=
  let arg1 : BitVec 32 := BitVec.ofNat 32 (i 1).val
  let v1552 : Index := Scalar.indexCast arg1
  let c29_656 : Index := 29#32
  let c3_657 : Index := 3#32
  ![v1552.toNat, 29, 3]
def k0_off179 (i : grid0.Coords) : Fin 3 → Nat :=
  let arg1 : BitVec 32 := BitVec.ofNat 32 (i 1).val
  let v1554 : Index := Scalar.indexCast arg1
  let c29_658 : Index := 29#32
  let c4_659 : Index := 4#32
  ![v1554.toNat, 29, 4]
def k0_off180 (i : grid0.Coords) : Fin 3 → Nat :=
  let arg1 : BitVec 32 := BitVec.ofNat 32 (i 1).val
  let v1595 : Index := Scalar.indexCast arg1
  let c29_671 : Index := 29#32
  let c5_672 : Index := 5#32
  ![v1595.toNat, 29, 5]
def k0_off181 (i : grid0.Coords) : Fin 3 → Nat :=
  let arg1 : BitVec 32 := BitVec.ofNat 32 (i 1).val
  let v1599 : Index := Scalar.indexCast arg1
  let c30 : Index := 30#32
  let c0_673 : Index := 0#32
  ![v1599.toNat, 30, 0]
def k0_off182 (i : grid0.Coords) : Fin 3 → Nat :=
  let arg1 : BitVec 32 := BitVec.ofNat 32 (i 1).val
  let v1601 : Index := Scalar.indexCast arg1
  let c30_674 : Index := 30#32
  let c1_675 : Index := 1#32
  ![v1601.toNat, 30, 1]
def k0_off183 (i : grid0.Coords) : Fin 3 → Nat :=
  let arg1 : BitVec 32 := BitVec.ofNat 32 (i 1).val
  let v1603 : Index := Scalar.indexCast arg1
  let c30_676 : Index := 30#32
  let c2_677 : Index := 2#32
  ![v1603.toNat, 30, 2]
def k0_off184 (i : grid0.Coords) : Fin 3 → Nat :=
  let arg1 : BitVec 32 := BitVec.ofNat 32 (i 1).val
  let v1605 : Index := Scalar.indexCast arg1
  let c30_678 : Index := 30#32
  let c3_679 : Index := 3#32
  ![v1605.toNat, 30, 3]
def k0_off185 (i : grid0.Coords) : Fin 3 → Nat :=
  let arg1 : BitVec 32 := BitVec.ofNat 32 (i 1).val
  let v1607 : Index := Scalar.indexCast arg1
  let c30_680 : Index := 30#32
  let c4_681 : Index := 4#32
  ![v1607.toNat, 30, 4]
def k0_off186 (i : grid0.Coords) : Fin 3 → Nat :=
  let arg1 : BitVec 32 := BitVec.ofNat 32 (i 1).val
  let v1648 : Index := Scalar.indexCast arg1
  let c30_693 : Index := 30#32
  let c5_694 : Index := 5#32
  ![v1648.toNat, 30, 5]
def k0_off187 (i : grid0.Coords) : Fin 3 → Nat :=
  let arg1 : BitVec 32 := BitVec.ofNat 32 (i 1).val
  let v1652 : Index := Scalar.indexCast arg1
  let c31 : Index := 31#32
  let c0_695 : Index := 0#32
  ![v1652.toNat, 31, 0]
def k0_off188 (i : grid0.Coords) : Fin 3 → Nat :=
  let arg1 : BitVec 32 := BitVec.ofNat 32 (i 1).val
  let v1654 : Index := Scalar.indexCast arg1
  let c31_696 : Index := 31#32
  let c1_697 : Index := 1#32
  ![v1654.toNat, 31, 1]
def k0_off189 (i : grid0.Coords) : Fin 3 → Nat :=
  let arg1 : BitVec 32 := BitVec.ofNat 32 (i 1).val
  let v1656 : Index := Scalar.indexCast arg1
  let c31_698 : Index := 31#32
  let c2_699 : Index := 2#32
  ![v1656.toNat, 31, 2]
def k0_off190 (i : grid0.Coords) : Fin 3 → Nat :=
  let arg1 : BitVec 32 := BitVec.ofNat 32 (i 1).val
  let v1658 : Index := Scalar.indexCast arg1
  let c31_700 : Index := 31#32
  let c3_701 : Index := 3#32
  ![v1658.toNat, 31, 3]
def k0_off191 (i : grid0.Coords) : Fin 3 → Nat :=
  let arg1 : BitVec 32 := BitVec.ofNat 32 (i 1).val
  let v1660 : Index := Scalar.indexCast arg1
  let c31_702 : Index := 31#32
  let c4_703 : Index := 4#32
  ![v1660.toNat, 31, 4]
def k0_off192 (i : grid0.Coords) : Fin 3 → Nat :=
  let arg1 : BitVec 32 := BitVec.ofNat 32 (i 1).val
  let v1701 : Index := Scalar.indexCast arg1
  let c31_715 : Index := 31#32
  let c5_716 : Index := 5#32
  ![v1701.toNat, 31, 5]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![arg1.toNat, v1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![arg1.toNat, c0_i32.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![arg1.toNat, c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S4x32x6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S4x65536x80 : Shape := ⟨3, ![4, 65536, 80]⟩
abbrev S4x65536x4 : Shape := ⟨3, ![4, 65536, 4]⟩
abbrev S1x65536x4 : Shape := ⟨3, ![1, 65536, 4]⟩
abbrev S4x32x5 : Shape := ⟨3, ![4, 32, 5]⟩
abbrev S4 : Shape := ⟨1, ![4]⟩
abbrev S65536x4 : Shape := ⟨2, ![65536, 4]⟩
abbrev S65536x1 : Shape := ⟨2, ![65536, 1]⟩
abbrev S65536 : Shape := ⟨1, ![65536]⟩
abbrev S_ : Shape := ⟨0, ![]⟩
abbrev S4x32x4 : Shape := ⟨3, ![4, 32, 4]⟩
abbrev S4x32x1 : Shape := ⟨3, ![4, 32, 1]⟩
abbrev S4x32 : Shape := ⟨2, ![4, 32]⟩
abbrev S1x65536x1 : Shape := ⟨3, ![1, 65536, 1]⟩
abbrev S4x1x32 : Shape := ⟨3, ![4, 1, 32]⟩
abbrev S4x65536x32 : Shape := ⟨3, ![4, 65536, 32]⟩
abbrev S4x65536 : Shape := ⟨2, ![4, 65536]⟩
abbrev S4x65536x1 : Shape := ⟨3, ![4, 65536, 1]⟩
abbrev S1 : Shape := ⟨1, ![1]⟩
abbrev S1x1x1 : Shape := ⟨3, ![1, 1, 1]⟩
abbrev S4x65536x5 : Shape := ⟨3, ![4, 65536, 5]⟩
abbrev S1x1x80 : Shape := ⟨3, ![1, 1, 80]⟩
abbrev S1x65536 : Shape := ⟨2, ![1, 65536]⟩
abbrev S1x1x4 : Shape := ⟨3, ![1, 1, 4]⟩
abbrev S2 : Shape := ⟨1, ![2]⟩

abbrev nBuf : Space → Nat
  | .hbm => 319
  | .vmem => 0
  | .smem => 0
  | _ => 0

abbrev hbmTy0_0 (i : Nat) : BufTy := match i % 128 with
  | 0 => ⟨S4x65536x80, .f32⟩
  | 1 => ⟨S4x65536x4, .f32⟩
  | 2 => ⟨S1x65536x4, .f32⟩
  | 3 => ⟨S4x32x5, .f32⟩
  | 4 => ⟨S4, .f32⟩
  | 5 => ⟨S65536x4, .f32⟩
  | 6 => ⟨S65536x1, .f32⟩
  | 7 => ⟨S65536, .f32⟩
  | 8 => ⟨S65536x1, .f32⟩
  | 9 => ⟨S65536, .f32⟩
  | 10 => ⟨S65536, .f32⟩
  | 11 => ⟨S65536x1, .f32⟩
  | 12 => ⟨S65536, .f32⟩
  | 13 => ⟨S65536x1, .f32⟩
  | 14 => ⟨S65536, .f32⟩
  | 15 => ⟨S65536, .f32⟩
  | 16 => ⟨S65536x1, .f32⟩
  | 17 => ⟨S65536, .f32⟩
  | 18 => ⟨S_, .f32⟩
  | 19 => ⟨S65536, .f32⟩
  | 20 => ⟨S65536, .f32⟩
  | 21 => ⟨S65536, .f32⟩
  | 22 => ⟨S65536x1, .f32⟩
  | 23 => ⟨S65536, .f32⟩
  | 24 => ⟨S_, .f32⟩
  | 25 => ⟨S65536, .f32⟩
  | 26 => ⟨S65536, .f32⟩
  | 27 => ⟨S65536, .f32⟩
  | 28 => ⟨S_, .f32⟩
  | 29 => ⟨S_, .f32⟩
  | 30 => ⟨S_, .f32⟩
  | 31 => ⟨S4x65536x80, .f32⟩
  | 32 => ⟨S4x65536x80, .f32⟩
  | 33 => ⟨S_, .f32⟩
  | 34 => ⟨S4x65536x80, .f32⟩
  | 35 => ⟨S4x65536x80, .f32⟩
  | 36 => ⟨S4x32x4, .f32⟩
  | 37 => ⟨S4x32x1, .f32⟩
  | 38 => ⟨S4x32, .f32⟩
  | 39 => ⟨S4x32x1, .f32⟩
  | 40 => ⟨S4x32, .f32⟩
  | 41 => ⟨S4x32, .f32⟩
  | 42 => ⟨S4x32x1, .f32⟩
  | 43 => ⟨S4x32, .f32⟩
  | 44 => ⟨S4x32x1, .f32⟩
  | 45 => ⟨S4x32, .f32⟩
  | 46 => ⟨S4x32, .f32⟩
  | 47 => ⟨S4x32, .f32⟩
  | 48 => ⟨S65536x1, .f32⟩
  | 49 => ⟨S1x65536x1, .f32⟩
  | 50 => ⟨S4x32x1, .f32⟩
  | 51 => ⟨S4x32, .f32⟩
  | 52 => ⟨S4x1x32, .f32⟩
  | 53 => ⟨S4x65536x32, .f32⟩
  | 54 => ⟨S4x65536x32, .f32⟩
  | 55 => ⟨S4x65536x32, .f32⟩
  | 56 => ⟨S65536x1, .f32⟩
  | 57 => ⟨S1x65536x1, .f32⟩
  | 58 => ⟨S4x32x1, .f32⟩
  | 59 => ⟨S4x32, .f32⟩
  | 60 => ⟨S4x1x32, .f32⟩
  | 61 => ⟨S4x65536x32, .f32⟩
  | 62 => ⟨S4x65536x32, .f32⟩
  | 63 => ⟨S4x65536x32, .f32⟩
  | 64 => ⟨S4x65536x32, .f32⟩
  | 65 => ⟨S65536x1, .f32⟩
  | 66 => ⟨S1x65536x1, .f32⟩
  | 67 => ⟨S4x32x1, .f32⟩
  | 68 => ⟨S4x32, .f32⟩
  | 69 => ⟨S4x1x32, .f32⟩
  | 70 => ⟨S4x65536x32, .f32⟩
  | 71 => ⟨S4x65536x32, .f32⟩
  | 72 => ⟨S4x65536x32, .f32⟩
  | 73 => ⟨S65536x1, .f32⟩
  | 74 => ⟨S1x65536x1, .f32⟩
  | 75 => ⟨S4x32x1, .f32⟩
  | 76 => ⟨S4x32, .f32⟩
  | 77 => ⟨S4x1x32, .f32⟩
  | 78 => ⟨S4x65536x32, .f32⟩
  | 79 => ⟨S4x65536x32, .f32⟩
  | 80 => ⟨S4x65536x32, .f32⟩
  | 81 => ⟨S4x65536x32, .f32⟩
  | 82 => ⟨S_, .f32⟩
  | 83 => ⟨S_, .f32⟩
  | 84 => ⟨S4x65536x32, .f32⟩
  | 85 => ⟨S4x65536x32, .f32⟩
  | 86 => ⟨S_, .f32⟩
  | 87 => ⟨S_, .f32⟩
  | 88 => ⟨S4x65536x32, .f32⟩
  | 89 => ⟨S4x65536x32, .f32⟩
  | 90 => ⟨S65536x1, .f32⟩
  | 91 => ⟨S65536, .f32⟩
  | 92 => ⟨S65536x1, .f32⟩
  | 93 => ⟨S65536, .f32⟩
  | 94 => ⟨S65536, .f32⟩
  | 95 => ⟨S65536x1, .f32⟩
  | 96 => ⟨S65536, .f32⟩
  | 97 => ⟨S65536x1, .f32⟩
  | 98 => ⟨S65536, .f32⟩
  | 99 => ⟨S65536, .f32⟩
  | 100 => ⟨S65536, .f32⟩
  | 101 => ⟨S1x65536x1, .f32⟩
  | 102 => ⟨S4x1x32, .f32⟩
  | 103 => ⟨S4x65536x32, .f32⟩
  | 104 => ⟨S4x65536x32, .f32⟩
  | 105 => ⟨S4x65536x32, .f32⟩
  | 106 => ⟨S4x65536x32, .f32⟩
  | 107 => ⟨S4x65536x32, .f32⟩
  | 108 => ⟨S_, .f32⟩
  | 109 => ⟨S_, .f32⟩
  | 110 => ⟨S4x65536x32, .f32⟩
  | 111 => ⟨S4x65536x32, .f32⟩
  | 112 => ⟨S4x65536x32, .f32⟩
  | 113 => ⟨S4x65536x32, .f32⟩
  | 114 => ⟨S_, .f32⟩
  | 115 => ⟨S4x65536, .f32⟩
  | 116 => ⟨S4x65536x32, .i32⟩
  | 117 => ⟨S_, .f32⟩
  | 118 => ⟨S_, .i32⟩
  | 119 => ⟨S4x65536, .f32⟩
  | 120 => ⟨S4x65536, .i32⟩
  | 121 => ⟨S_, .f32⟩
  | 122 => ⟨S4x65536, .f32⟩
  | 123 => ⟨S4x65536, .i1⟩
  | 124 => ⟨S_, .f32⟩
  | 125 => ⟨S4x65536, .f32⟩
  | 126 => ⟨S4x65536, .i1⟩
  | 127 => ⟨S4x65536x1, .i32⟩
  | _ => ⟨S4x65536x80, .f32⟩

abbrev hbmTy0_1 (i : Nat) : BufTy := match i % 128 with
  | 0 => ⟨S_, .i32⟩
  | 1 => ⟨S4x65536x1, .i32⟩
  | 2 => ⟨S4x65536x1, .i1⟩
  | 3 => ⟨S_, .i32⟩
  | 4 => ⟨S4x65536x1, .i32⟩
  | 5 => ⟨S4x65536x1, .i32⟩
  | 6 => ⟨S4x65536x1, .i32⟩
  | 7 => ⟨S1, .i32⟩
  | 8 => ⟨S_, .i32⟩
  | 9 => ⟨S4x65536x1, .i32⟩
  | 10 => ⟨S4x65536x1, .i1⟩
  | 11 => ⟨S1x1x1, .i32⟩
  | 12 => ⟨S4x65536x1, .i32⟩
  | 13 => ⟨S4x65536x1, .i1⟩
  | 14 => ⟨S4x65536x1, .i1⟩
  | 15 => ⟨S_, .i1⟩
  | 16 => ⟨S4x65536, .i1⟩
  | 17 => ⟨S4x65536x5, .f32⟩
  | 18 => ⟨S4x65536x5, .i1⟩
  | 19 => ⟨S_, .f32⟩
  | 20 => ⟨S4x65536x5, .f32⟩
  | 21 => ⟨S4x65536x5, .f32⟩
  | 22 => ⟨S4x65536x1, .f32⟩
  | 23 => ⟨S4x65536, .f32⟩
  | 24 => ⟨S4x65536, .i32⟩
  | 25 => ⟨S4x65536x1, .i32⟩
  | 26 => ⟨S1x1x80, .i32⟩
  | 27 => ⟨S4x65536x80, .i32⟩
  | 28 => ⟨S4x65536x80, .i32⟩
  | 29 => ⟨S4x65536x80, .i1⟩
  | 30 => ⟨S4x65536x80, .f32⟩
  | 31 => ⟨S_, .f32⟩
  | 32 => ⟨S4x65536x80, .f32⟩
  | 33 => ⟨S4x65536x1, .i1⟩
  | 34 => ⟨S_, .f32⟩
  | 35 => ⟨S_, .f32⟩
  | 36 => ⟨S4x65536x80, .i1⟩
  | 37 => ⟨S4x65536x80, .f32⟩
  | 38 => ⟨S4x65536x80, .f32⟩
  | 39 => ⟨S4x65536x1, .i1⟩
  | 40 => ⟨S4x65536x80, .i1⟩
  | 41 => ⟨S4x65536x80, .f32⟩
  | 42 => ⟨S4x65536, .i32⟩
  | 43 => ⟨S_, .i32⟩
  | 44 => ⟨S4, .i32⟩
  | 45 => ⟨S4, .f32⟩
  | 46 => ⟨S_, .f32⟩
  | 47 => ⟨S4x65536x80, .f32⟩
  | 48 => ⟨S4x65536x80, .i1⟩
  | 49 => ⟨S_, .f32⟩
  | 50 => ⟨S_, .f32⟩
  | 51 => ⟨S4x65536x80, .f32⟩
  | 52 => ⟨S4x65536x80, .f32⟩
  | 53 => ⟨S4x65536x80, .f32⟩
  | 54 => ⟨S_, .f32⟩
  | 55 => ⟨S4x65536x80, .f32⟩
  | 56 => ⟨S4x65536x80, .i1⟩
  | 57 => ⟨S_, .f32⟩
  | 58 => ⟨S4x65536x80, .f32⟩
  | 59 => ⟨S4x65536x80, .f32⟩
  | 60 => ⟨S4x65536x80, .f32⟩
  | 61 => ⟨S_, .f32⟩
  | 62 => ⟨S4x65536x80, .f32⟩
  | 63 => ⟨S4x65536x80, .f32⟩
  | 64 => ⟨S4x65536x80, .f32⟩
  | 65 => ⟨S4x65536x80, .f32⟩
  | 66 => ⟨S4x65536x80, .f32⟩
  | 67 => ⟨S4x65536x80, .f32⟩
  | 68 => ⟨S_, .f32⟩
  | 69 => ⟨S4x65536x80, .f32⟩
  | 70 => ⟨S4x65536x80, .f32⟩
  | 71 => ⟨S_, .f32⟩
  | 72 => ⟨S4x65536x80, .f32⟩
  | 73 => ⟨S4x65536x80, .f32⟩
  | 74 => ⟨S4x65536x80, .f32⟩
  | 75 => ⟨S4x65536x80, .f32⟩
  | 76 => ⟨S4x65536x80, .f32⟩
  | 77 => ⟨S4x65536x80, .f32⟩
  | 78 => ⟨S4x65536x80, .f32⟩
  | 79 => ⟨S_, .f32⟩
  | 80 => ⟨S4x65536x80, .f32⟩
  | 81 => ⟨S4x65536x80, .i1⟩
  | 82 => ⟨S_, .f32⟩
  | 83 => ⟨S_, .f32⟩
  | 84 => ⟨S4x65536x80, .f32⟩
  | 85 => ⟨S4x65536x80, .f32⟩
  | 86 => ⟨S_, .f32⟩
  | 87 => ⟨S4, .f32⟩
  | 88 => ⟨S_, .f32⟩
  | 89 => ⟨S_, .f32⟩
  | 90 => ⟨S4, .f32⟩
  | 91 => ⟨S4, .f32⟩
  | 92 => ⟨S4, .f32⟩
  | 93 => ⟨S4x65536x1, .f32⟩
  | 94 => ⟨S4x65536, .f32⟩
  | 95 => ⟨S4x65536x1, .f32⟩
  | 96 => ⟨S4x65536, .f32⟩
  | 97 => ⟨S4x65536, .f32⟩
  | 98 => ⟨S4x65536x1, .f32⟩
  | 99 => ⟨S4x65536, .f32⟩
  | 100 => ⟨S4x65536x1, .f32⟩
  | 101 => ⟨S4x65536, .f32⟩
  | 102 => ⟨S4x65536, .f32⟩
  | 103 => ⟨S4x65536x1, .f32⟩
  | 104 => ⟨S4x65536, .f32⟩
  | 105 => ⟨S_, .f32⟩
  | 106 => ⟨S4x65536, .f32⟩
  | 107 => ⟨S4x65536, .f32⟩
  | 108 => ⟨S4x65536, .f32⟩
  | 109 => ⟨S4x65536x1, .f32⟩
  | 110 => ⟨S4x65536, .f32⟩
  | 111 => ⟨S_, .f32⟩
  | 112 => ⟨S4x65536, .f32⟩
  | 113 => ⟨S4x65536, .f32⟩
  | 114 => ⟨S4x65536, .f32⟩
  | 115 => ⟨S_, .f32⟩
  | 116 => ⟨S_, .f32⟩
  | 117 => ⟨S4x65536, .f32⟩
  | 118 => ⟨S4x65536, .f32⟩
  | 119 => ⟨S_, .f32⟩
  | 120 => ⟨S_, .f32⟩
  | 121 => ⟨S4x65536, .f32⟩
  | 122 => ⟨S4x65536, .f32⟩
  | 123 => ⟨S1x65536, .f32⟩
  | 124 => ⟨S4x65536, .f32⟩
  | 125 => ⟨S4x65536, .f32⟩
  | 126 => ⟨S1x65536, .f32⟩
  | 127 => ⟨S4x65536, .f32⟩
  | _ => ⟨S4x65536x80, .f32⟩

abbrev hbmTy0_2 (i : Nat) : BufTy := match i % 128 with
  | 0 => ⟨S4x65536, .f32⟩
  | 1 => ⟨S1x65536, .f32⟩
  | 2 => ⟨S4x65536, .f32⟩
  | 3 => ⟨S4x65536, .f32⟩
  | 4 => ⟨S1x65536, .f32⟩
  | 5 => ⟨S4x65536, .f32⟩
  | 6 => ⟨S4x65536, .f32⟩
  | 7 => ⟨S1x65536, .f32⟩
  | 8 => ⟨S4x65536, .f32⟩
  | 9 => ⟨S4x65536, .f32⟩
  | 10 => ⟨S4x65536, .f32⟩
  | 11 => ⟨S1x65536, .f32⟩
  | 12 => ⟨S4x65536, .f32⟩
  | 13 => ⟨S4x65536, .f32⟩
  | 14 => ⟨S4x65536, .f32⟩
  | 15 => ⟨S4x65536x1, .f32⟩
  | 16 => ⟨S4x65536x1, .f32⟩
  | 17 => ⟨S4x65536x1, .f32⟩
  | 18 => ⟨S4x65536x1, .f32⟩
  | 19 => ⟨S4x65536x4, .f32⟩
  | 20 => ⟨S1x1x4, .f32⟩
  | 21 => ⟨S4x65536x4, .f32⟩
  | 22 => ⟨S4x65536x4, .f32⟩
  | 23 => ⟨S4x65536x4, .f32⟩
  | 24 => ⟨S4x65536x4, .f32⟩
  | 25 => ⟨S_, .f32⟩
  | 26 => ⟨S4x65536x4, .f32⟩
  | 27 => ⟨S4x65536x4, .i1⟩
  | 28 => ⟨S4x65536x4, .f32⟩
  | 29 => ⟨S_, .f32⟩
  | 30 => ⟨S4x65536x4, .f32⟩
  | 31 => ⟨S4x65536x4, .f32⟩
  | 32 => ⟨S_, .f32⟩
  | 33 => ⟨S4x65536x4, .f32⟩
  | 34 => ⟨S4x65536x4, .f32⟩
  | 35 => ⟨S4x65536x4, .f32⟩
  | 36 => ⟨S4x65536x1, .i1⟩
  | 37 => ⟨S4x65536x1, .f32⟩
  | 38 => ⟨S4x65536x4, .f32⟩
  | 39 => ⟨S4x65536x4, .f32⟩
  | 40 => ⟨S_, .f32⟩
  | 41 => ⟨S4, .f32⟩
  | 42 => ⟨S_, .f32⟩
  | 43 => ⟨S4, .f32⟩
  | 44 => ⟨S4, .f32⟩
  | 45 => ⟨S_, .f32⟩
  | 46 => ⟨S_, .f32⟩
  | 47 => ⟨S4, .f32⟩
  | 48 => ⟨S4, .f32⟩
  | 49 => ⟨S4, .f32⟩
  | 50 => ⟨S_, .f32⟩
  | 51 => ⟨S_, .f32⟩
  | 52 => ⟨S1, .f32⟩
  | 53 => ⟨S_, .f32⟩
  | 54 => ⟨S1, .f32⟩
  | 55 => ⟨S1, .f32⟩
  | 56 => ⟨S_, .f32⟩
  | 57 => ⟨S_, .f32⟩
  | 58 => ⟨S1, .f32⟩
  | 59 => ⟨S_, .f32⟩
  | 60 => ⟨S1, .f32⟩
  | 61 => ⟨S1, .f32⟩
  | 62 => ⟨S2, .f32⟩
  | _ => ⟨S4x65536x80, .f32⟩

abbrev hbmTy (i : Nat) : BufTy := match i / 128 with
  | 0 => hbmTy0_0 i
  | 1 => hbmTy0_1 i
  | 2 => hbmTy0_2 i
  | _ => ⟨S4x65536x80, .f32⟩

abbrev bufTy : (tb : Table) → Fin (tcTables nBuf tb) → BufTy
  | .hbm, ⟨i, _⟩ => hbmTy i
  | _, _ => ⟨S4x65536x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_4 : Ref sig .tc := ⟨.hbm, 82, rfl⟩
abbrev main_call1_v0 : Ref sig .tc := ⟨.hbm, 83, rfl⟩
abbrev main_call1_v1 : Ref sig .tc := ⟨.hbm, 84, rfl⟩
abbrev main_v68 : Ref sig .tc := ⟨.hbm, 85, rfl⟩
abbrev main_cst_5 : Ref sig .tc := ⟨.hbm, 86, rfl⟩
abbrev main_call2_v0 : Ref sig .tc := ⟨.hbm, 87, rfl⟩
abbrev main_call2_v1 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_6 : Ref sig .tc := ⟨.hbm, 108, rfl⟩
abbrev main_call3_v0 : Ref sig .tc := ⟨.hbm, 109, rfl⟩
abbrev main_call3_v1 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_7 : Ref sig .tc := ⟨.hbm, 114, rfl⟩
abbrev main_v91 : Ref sig .tc := ⟨.hbm, 115, rfl⟩
abbrev main_call4_v0 : Ref sig .tc := ⟨.hbm, 116, rfl⟩
abbrev main_call4_cst : Ref sig .tc := ⟨.hbm, 117, rfl⟩
abbrev main_call4_c : Ref sig .tc := ⟨.hbm, 118, rfl⟩
abbrev main_call4_v1_0 : Ref sig .tc := ⟨.hbm, 119, rfl⟩
abbrev main_v92 : Ref sig .tc := ⟨.hbm, 120, rfl⟩
abbrev main_cst_8 : Ref sig .tc := ⟨.hbm, 121, rfl⟩
abbrev main_v93 : Ref sig .tc := ⟨.hbm, 122, rfl⟩
abbrev main_v94 : Ref sig .tc := ⟨.hbm, 123, rfl⟩
abbrev main_cst_9 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_call5_c : Ref sig .tc := ⟨.hbm, 128, rfl⟩
abbrev main_call5_v0 : Ref sig .tc := ⟨.hbm, 129, rfl⟩
abbrev main_call5_v1 : Ref sig .tc := ⟨.hbm, 130, rfl⟩
abbrev main_call5_c_0 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_call5_c_1 : Ref sig .tc := ⟨.hbm, 135, rfl⟩
abbrev main_call5_c_2 : Ref sig .tc := ⟨.hbm, 136, rfl⟩
abbrev main_call5_v5 : Ref sig .tc := ⟨.hbm, 137, rfl⟩
abbrev main_call5_v6 : Ref sig .tc := ⟨.hbm, 138, rfl⟩
abbrev main_call5_v7 : Ref sig .tc := ⟨.hbm, 139, rfl⟩
abbrev main_call5_v8 : Ref sig .tc := ⟨.hbm, 140, rfl⟩
abbrev main_call5_v9 : Ref sig .tc := ⟨.hbm, 141, rfl⟩
abbrev main_call5_v10 : Ref sig .tc := ⟨.hbm, 142, rfl⟩
abbrev main_call5_c_3 : Ref sig .tc := ⟨.hbm, 143, rfl⟩
abbrev main_call5_v11 : Ref sig .tc := ⟨.hbm, 144, rfl⟩
abbrev main_call5_v12 : Ref sig .tc := ⟨.hbm, 145, rfl⟩
abbrev main_call5_v13 : Ref sig .tc := ⟨.hbm, 146, rfl⟩
abbrev main_call5_cst : Ref sig .tc := ⟨.hbm, 147, rfl⟩
abbrev main_call5_v14 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_v102 : Ref sig .tc := ⟨.hbm, 158, rfl⟩
abbrev main_cst_10 : Ref sig .tc := ⟨.hbm, 159, rfl⟩
abbrev main_v103 : Ref sig .tc := ⟨.hbm, 160, rfl⟩
abbrev main_v104 : Ref sig .tc := ⟨.hbm, 161, rfl⟩
abbrev main_cst_11 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_v105 : Ref sig .tc := ⟨.hbm, 166, rfl⟩
abbrev main_v106 : Ref sig .tc := ⟨.hbm, 167, rfl⟩
abbrev main_call8_v0 : Ref sig .tc := ⟨.hbm, 168, rfl⟩
abbrev main_v107 : Ref sig .tc := ⟨.hbm, 169, rfl⟩
abbrev main_v108 : Ref sig .tc := ⟨.hbm, 170, rfl⟩
abbrev main_c : Ref sig .tc := ⟨.hbm, 171, rfl⟩
abbrev main_v109 : Ref sig .tc := ⟨.hbm, 172, rfl⟩
abbrev main_v110 : Ref sig .tc := ⟨.hbm, 173, rfl⟩
abbrev main_cst_12 : Ref sig .tc := ⟨.hbm, 174, rfl⟩
abbrev main_v111 : Ref sig .tc := ⟨.hbm, 175, rfl⟩
abbrev main_v112 : Ref sig .tc := ⟨.hbm, 176, rfl⟩
abbrev main_cst_13 : Ref sig .tc := ⟨.hbm, 177, rfl⟩
abbrev main_cst_14 : Ref sig .tc := ⟨.hbm, 178, rfl⟩
abbrev main_call9_v0 : Ref sig .tc := ⟨.hbm, 179, rfl⟩
abbrev main_call9_v1 : Ref sig .tc := ⟨.hbm, 180, rfl⟩
abbrev main_v113 : Ref sig .tc := ⟨.hbm, 181, rfl⟩
abbrev main_cst_15 : Ref sig .tc := ⟨.hbm, 182, rfl⟩
abbrev main_v114 : Ref sig .tc := ⟨.hbm, 183, rfl⟩
abbrev main_v115 : Ref sig .tc := ⟨.hbm, 184, rfl⟩
abbrev main_cst_16 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_cst_17 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_18 : Ref sig .tc := ⟨.hbm, 196, rfl⟩
abbrev main_v125 : Ref sig .tc := ⟨.hbm, 197, rfl⟩
abbrev main_v126 : Ref sig .tc := ⟨.hbm, 198, rfl⟩
abbrev main_cst_19 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_20 : Ref sig .tc := ⟨.hbm, 207, rfl⟩
abbrev main_v134 : Ref sig .tc := ⟨.hbm, 208, rfl⟩
abbrev main_v135 : Ref sig .tc := ⟨.hbm, 209, rfl⟩
abbrev main_cst_21 : Ref sig .tc := ⟨.hbm, 210, rfl⟩
abbrev main_call11_v0 : Ref sig .tc := ⟨.hbm, 211, rfl⟩
abbrev main_call11_v1 : Ref sig .tc := ⟨.hbm, 212, rfl⟩
abbrev main_v136 : Ref sig .tc := ⟨.hbm, 213, rfl⟩
abbrev main_cst_22 : Ref sig .tc := ⟨.hbm, 214, rfl⟩
abbrev main_v137 : Ref sig .tc := ⟨.hbm, 215, rfl⟩
abbrev main_cst_23 : Ref sig .tc := ⟨.hbm, 216, rfl⟩
abbrev main_call12_v0 : Ref sig .tc := ⟨.hbm, 217, rfl⟩
abbrev main_call12_v1 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_cst_24 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_cst_25 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_cst_26 : Ref sig .tc := ⟨.hbm, 243, rfl⟩
abbrev main_call13_v0 : Ref sig .tc := ⟨.hbm, 244, rfl⟩
abbrev main_call13_v1 : Ref sig .tc := ⟨.hbm, 245, rfl⟩
abbrev main_v160 : Ref sig .tc := ⟨.hbm, 246, rfl⟩
abbrev main_cst_27 : Ref sig .tc := ⟨.hbm, 247, rfl⟩
abbrev main_call14_v0 : Ref sig .tc := ⟨.hbm, 248, rfl⟩
abbrev main_call14_v1 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_cst_28 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_cst_29 : Ref sig .tc := ⟨.hbm, 285, rfl⟩
abbrev main_v195 : Ref sig .tc := ⟨.hbm, 286, rfl⟩
abbrev main_v196 : Ref sig .tc := ⟨.hbm, 287, rfl⟩
abbrev main_cst_30 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_cst_31 : Ref sig .tc := ⟨.hbm, 296, rfl⟩
abbrev main_v204 : Ref sig .tc := ⟨.hbm, 297, rfl⟩
abbrev main_cst_32 : Ref sig .tc := ⟨.hbm, 298, rfl⟩
abbrev main_v205 : Ref sig .tc := ⟨.hbm, 299, rfl⟩
abbrev main_v206 : Ref sig .tc := ⟨.hbm, 300, rfl⟩
abbrev main_cst_33 : Ref sig .tc := ⟨.hbm, 301, rfl⟩
abbrev main_call16_v0 : Ref sig .tc := ⟨.hbm, 302, rfl⟩
abbrev main_call16_v1 : Ref sig .tc := ⟨.hbm, 303, rfl⟩
abbrev main_v207 : Ref sig .tc := ⟨.hbm, 304, rfl⟩
abbrev main_v208 : Ref sig .tc := ⟨.hbm, 305, rfl⟩
abbrev main_cst_34 : Ref sig .tc := ⟨.hbm, 306, rfl⟩
abbrev main_v209 : Ref sig .tc := ⟨.hbm, 307, rfl⟩
abbrev main_v210 : Ref sig .tc := ⟨.hbm, 308, rfl⟩
abbrev main_cst_35 : Ref sig .tc := ⟨.hbm, 309, rfl⟩
abbrev main_v211 : Ref sig .tc := ⟨.hbm, 310, rfl⟩
abbrev main_v212 : Ref sig .tc := ⟨.hbm, 311, rfl⟩
abbrev main_cst_36 : Ref sig .tc := ⟨.hbm, 312, rfl⟩
abbrev main_v213 : Ref sig .tc := ⟨.hbm, 313, rfl⟩
abbrev main_v214 : Ref sig .tc := ⟨.hbm, 314, rfl⟩
abbrev main_cst_37 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩

abbrev nD : Nat := 1
abbrev τ : Topo := Topo.v7x

variable {F : FTy → Type} [FloatOps F]
-- ==== Proof.PreFacts.lean ====
/- The side conditions of the precondition `labels_in_range`. -/
module

public import proofs.«01_k».proof.Pre_labels_in_range

@[expose] public section

namespace Cert.Own

open Idealize.ShloMosaic Cert.Pre_labels_in_range

/-- The shape relations the precondition's operations take all hold. -/
instance preFacts : Cert.Pre_labels_in_range.Facts where
  slices_S4x32x5_S4x32x1_0_0_4 := by decide
  shapeCasts_S4x32x1_S4x32 := by decide
  bcast_S_S4x32 := by decide
  reducesTo_S4x32_S_d0_1 := by decide
  h_S_ := by decide

end Cert.Own

end
-- ==== Proof.RefRun.lean ====
/- The reference's run: a straight line of host operations. -/
module

public import proofs.«01_k».proof.Defs
public import proofs.«01_k».proof.Proof.Gen.ReferenceIdeal
public import proofs.«01_k».proof.Proof.PreFacts
public import Idealize.ShloMosaic.Lib.Claim
public import Idealize.ShloMosaic.Lib.StableHlo.ReadAt

@[expose] public section

set_option maxRecDepth 16384

noncomputable section

namespace Cert.Own

open Idealize.ShloMosaic Idealize.SL.Sem Idealize.ShloMosaic.StableHlo Cert.ReferenceIdeal

/-- The reference's operations in order, with the proof that they are its program. -/
def refOps : { ops : List (HloOp τ sig (Elt Ideal)) // ∀ d, IsSeq (main (F := Ideal) d) ops } := by
  apply Subtype.mk
  case property => hlo_seq

/-- The reference terminates, and every buffer ends at what its operations leave there. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc),
        r.2.mem ((d.tc : Thread nD τ).loc b) = after refOps.1 (launchContents m d) (Proc.devRef .tc b) :=
  run_hlo _ _ refOps.2 (by decide) (by decide) (by dsimp only [refOps]; simp)
    (by intro _ h; dsimp only [refOps] at h; (repeat (cases h with | head => rfl | tail _ h => ?_)); exact nomatch h) _ _

/-- The reference terminates, leaves its arguments as they were and every counter at zero. -/
theorem ref_frame : Cert.quiescent_ReferenceIdeal := fun m g _ =>
  (θ_run _ _ _).mono (fun r h => ⟨fun c => ⟨by rw [h]; unfold refOps; after_reads_simp, by rw [h]; unfold refOps; after_reads_simp,
    by rw [h]; unfold refOps; after_reads_simp, by rw [h]; unfold refOps; after_reads_simp⟩, sem_eq_zero_of_no_sems (by decide) r.2⟩) (ref_run m g)

end Cert.Own

end
-- ==== Proof.Block.lean ====
module

public import proofs.«01_k».proof.Proof.Gen.KernelIdeal.Frame

@[expose] public section

set_option maxRecDepth 16384

noncomputable section

namespace Cert.Own

open Idealize.ShloMosaic Idealize.ShloMosaic.TcCoe
open Cert.KernelIdeal Cert.KernelIdeal.Gen

variable {F : FTy → Type} [FloatOps F]

/-- A half block's working row: one value for each of 4096 anchors. -/
abbrev Row (F : FTy → Type) := FVec F S32x128 .f32

/-- The constant row. -/
abbrev cR (w : BitVec 32) : Row F := broadcast S32x128 (Scalar.ofBits .f32 w)

/-- The overlap (intersection over union) of each anchor with one annotation box. -/
def iouV (a1 a2 a3 a4 ar : Row F) (b : Fin 6 → F .f32) : Row F :=
  let w : Row F := maximumf (cR 0x00000000#32) (subf (minimumf a3 (broadcast S32x128 (b 2))) (maximumf a1 (broadcast S32x128 (b 0))))
  let h : Row F := maximumf (cR 0x00000000#32) (subf (minimumf a4 (broadcast S32x128 (b 3))) (maximumf a2 (broadcast S32x128 (b 1))))
  let i : Row F := mulf w h
  divf i (maximumf (cR 0x322BCC77#32) (subf (addf ar (broadcast S32x128 (b 4))) i))

/-- What the sweep over the annotations carries: the best overlap and the box and label that reached it. -/
structure St (F : FTy → Type) where
  best : Row F
  x1 : Row F
  y1 : Row F
  x2 : Row F
  y2 : Row F
  lab : Row F

/-- The sweep's state after the first annotation. -/
def st0 (a1 a2 a3 a4 ar : Row F) (b : Fin 6 → F .f32) : St F :=
  ⟨iouV a1 a2 a3 a4 ar b, broadcast S32x128 (b 0), broadcast S32x128 (b 1), broadcast S32x128 (b 2), broadcast S32x128 (b 3), broadcast S32x128 (b 5)⟩

/-- One more annotation: a strictly larger overlap replaces the state. -/
def stS (a1 a2 a3 a4 ar : Row F) (s : St F) (b : Fin 6 → F .f32) : St F :=
  let v := iouV a1 a2 a3 a4 ar b
  let c := cmpf .ogt v s.best
  ⟨select c v s.best, select c (broadcast S32x128 (b 0)) s.x1, select c (broadcast S32x128 (b 1)) s.y1,
    select c (broadcast S32x128 (b 2)) s.x2, select c (broadcast S32x128 (b 3)) s.y2, select c (broadcast S32x128 (b 5)) s.lab⟩

/-- The sweep's state after annotation `n`. -/
def stN (a1 a2 a3 a4 ar : Row F) (rd : Fin 32 → Fin 6 → F .f32) : (n : ℕ) → n < 32 → St F
  | 0, h => st0 a1 a2 a3 a4 ar (rd ⟨0, h⟩)
  | n + 1, h => stS a1 a2 a3 a4 ar (stN a1 a2 a3 a4 ar rd n (Nat.lt_of_succ_lt h)) (rd ⟨n + 1, h⟩)

/-- One where the best overlap is above the positive threshold, else zero. -/
def posV (s : St F) : Row F := sitofp .f32 (extui 32 (cmpf .ogt s.best (cR 0x3DCCCCCD#32)) natLt_1_32)

/-- One where the anchor takes part in the classification loss. -/
def valV (s : St F) : Row F := select (cmpf .ole s.best (cR 0x3C23D70A#32)) (cR 0x3F800000#32) (posV s)

/-- The centre target along one axis. -/
def tdV (lo hi g1 g2 : Row F) : Row F :=
  let aw := subf hi lo
  divf (divf (subf (addf g1 (mulf (cR 0x3F000000#32) (subf g2 g1))) (addf lo (mulf (cR 0x3F000000#32) aw))) aw) (cR 0x3DCCCCCD#32)

/-- The size target along one axis. -/
def tsV (lo hi g1 g2 : Row F) : Row F :=
  divf (log (divf (maximumf (cR 0x3F800000#32) (subf g2 g1)) (subf hi lo))) (cR 0x3E4CCCCD#32)

/-- The smooth L1 term of one coordinate. -/
def rlV (t : Row F) (r : Vec F S1x1x32x128 .f32) : Row F :=
  let d := absf (subf t (shapeCast S32x128 r shapeCasts_S1x1x32x128_S32x128))
  select (cmpf .olt d (cR 0x3DE38E39#32)) (mulf (cR 0x40900000#32) (mulf d d)) (subf d (cR 0x3D638E39#32))

/-- The sum of a row. -/
def sumR (v : Row F) : F .f32 :=
  extractAt ![0,0,0] (shapeCast S1x1x1 (multiReduction .add [1, 2] S1 (shapeCast S1x32x128 v shapeCasts_S32x128_S1x32x128) 0x00000000#32 reduces_S1x32x128_S1 (.inl rfl) rfl) shapeCasts_S1_S1x1x1) inpos_S1x1x1_p0_0_0

/-- A constant class-by-anchor block. -/
abbrev cC (w : BitVec 32) : FVec F S80x4096 .f32 := broadcast S80x4096 (Scalar.ofBits .f32 w)
/-- A constant flat row. -/
abbrev cF (w : BitVec 32) : FVec F S4096 .f32 := broadcast S4096 (Scalar.ofBits .f32 w)

/-- The clipped scores, class by anchor. -/
def clsV (v : Vec F S1x4096x80 .f32) : FVec F S80x4096 .f32 :=
  minimumf (cC 0x3F7FF972#32) (maximumf (cC 0x38D1B717#32) (transpose S80x4096 [1, 0] (shapeCast S4096x80 v shapeCasts_S1x4096x80_S4096x80) transposes_S4096x80_p1_0_S80x4096))

/-- The negative-target term summed over the classes. -/
def srowV (c : FVec F S80x4096 .f32) : FVec F S4096 .f32 :=
  multiReduction .add [0] S4096 (mulf (mulf (cC 0x3F400000#32) (mulf c c)) (subf (cC 0x00000000#32) (log (subf (cC 0x3F800000#32) c)))) 0x00000000#32 reduces_S80x4096_S4096 (.inl rfl) rfl

/-- The score at the assigned label. -/
def selV (lab : Row F) (c : FVec F S80x4096 .f32) : FVec F S4096 .f32 :=
  multiReduction .add [0] S4096 (select (cmpi .eq (iota .tc S80x4096 32 [0] iota_S80x4096_d0_w32)
      (broadcastTo S80x4096 (fptosi 32 (shapeCast S1x4096 lab shapeCasts_S32x128_S1x4096)) broadcasts_S1x4096_S80x4096)) c (cC 0x00000000#32)) 0x00000000#32 reduces_S80x4096_S4096 (.inl rfl) rfl

/-- The classification loss of a half block. -/
def clfV (s : St F) (v : Vec F S1x4096x80 .f32) : F .f32 :=
  let c := clsV v
  let e := selV s.lab c
  let t0 := mulf (mulf (cF 0x3F400000#32) (mulf e e)) (subf (cF 0x00000000#32) (log (subf (cF 0x3F800000#32) e)))
  let t1 := mulf (mulf (cF 0x3E800000#32) (mulf (subf (cF 0x3F800000#32) e) (subf (cF 0x3F800000#32) e))) (subf (cF 0x00000000#32) (log e))
  extractAt ![0,0] (shapeCast S1x1 (multiReduction .add [1] S1 (shapeCast S1x4096 (addf (mulf (shapeCast S4096 (valV s) shapeCasts_S32x128_S4096) (srowV c))
    (mulf (shapeCast S4096 (posV s) shapeCasts_S32x128_S4096) (subf t1 t0))) shapeCasts_S4096_S1x4096) 0x00000000#32 reduces_S1x4096_S1 (.inl rfl) rfl) shapeCasts_S1_S1x1) inpos_S1x1_p0_0

/-- The regression loss of a half block. -/
def regV (a1 a2 a3 a4 : Row F) (s : St F) (r : Fin 4 → Vec F S1x1x32x128 .f32) : F .f32 :=
  sumR (mulf (posV s) (addf (addf (addf (addf (cR 0x00000000#32) (rlV (tdV a1 a3 s.x1 s.x2) (r 0)))
    (rlV (tdV a2 a4 s.y1 s.y2) (r 1))) (rlV (tsV a1 a3 s.x1 s.x2) (r 2))) (rlV (tsV a2 a4 s.y1 s.y2) (r 3))))

/-- The anchor coordinate of a half block as a row. -/
def anV (v : Vec F S1x32x128 .f32) : Row F := shapeCast S32x128 v shapeCasts_S1x32x128_S32x128

/-- The sweep's final state over a half block's anchors. -/
def sweep (an : Fin 4 → Vec F S1x32x128 .f32) (rd : Fin 32 → Fin 6 → F .f32) : St F :=
  stN (anV (an 0)) (anV (an 1)) (anV (an 2)) (anV (an 3))
    (mulf (subf (anV (an 2)) (anV (an 0))) (subf (anV (an 3)) (anV (an 1)))) rd 31 (by decide)

/-- What a grid point leaves in the output block: the two halves' sums, put in the row of the point's image. -/
def ptV (i : grid0.Coords) (clf reg np : F .f32) (xo : Vec F S4x1x128 .f32) : FVec F S4x1x128 .f32 :=
  let lane := iota .tc S4x1x128 32 [2] iota_S4x1x128_d2_w32
  let z : FVec F S4x1x128 .f32 := broadcast S4x1x128 (Scalar.ofBits .f32 0x00000000#32)
  addf (shapeCast S4x1x128 xo shapeCasts_S4x1x128_S4x1x128)
    (select (cmpi .eq (iota .tc S4x1x128 32 [0] iota_S4x1x128_d0_w32) (broadcast S4x1x128 (BitVec.ofNat 32 (i 1).val)))
      (addf (addf (select (cmpi .eq lane (broadcast S4x1x128 0#32)) (broadcast S4x1x128 clf) z)
        (select (cmpi .eq lane (broadcast S4x1x128 1#32)) (broadcast S4x1x128 reg) z))
        (select (cmpi .eq lane (broadcast S4x1x128 2#32)) (broadcast S4x1x128 np) z)) z)

/-- Where entry `j` of annotation `k` of the point's image lies in the annotation block. -/
def offA (i : grid0.Coords) (k j : ℕ) : Fin 3 → ℕ := ![(Scalar.indexCast (BitVec.ofNat 32 (i 1).val) : Index).toNat, k, j]

/-- An annotation entry lies within the annotations. -/
theorem offA_inb (i : grid0.Coords) (k : Fin 32) (j : Fin 6) : ∀ a, offA i k j a + S1x1x1.size a ≤ S4x32x6.size a
  | 0 => k0_off1_inb i 0
  | 1 => Nat.succ_le_of_lt k.2
  | 2 => Nat.succ_le_of_lt j.2

/-- The annotation entries the point reads. -/
def rdA (i : grid0.Coords) (arg2 : Memref sig .tc .smem S4x32x6 .f32) (f : arg2.view.ty.Contents (Elt F)) (k : Fin 32) (j : Fin 6) : F .f32 :=
  View.readAt (Elt F) arg2.view (Rect.unit (s := S4x32x6) (offA i k j) S1x1x1.size (offA_inb i k j)).toLoadRect f (Shape.Idx.first (Nat.lt_of_lt_of_eq Nat.zero_lt_one numel1_S1x1x1.symm))

/-- A coordinate plane lies within the anchor block. -/
theorem inbAn (k : Fin 4) : ∀ a, (![k.val, 0, 0] : Fin 3 → ℕ) a + S1x32x128.size a ≤ S4x32x128.size a
  | 0 => Nat.succ_le_of_lt k.2
  | 1 => Nat.le_refl _
  | 2 => Nat.le_refl _

/-- A coordinate plane lies within the regression block. -/
theorem inbRe (k : Fin 4) : ∀ a, (![0, k.val, 0, 0] : Fin 4 → ℕ) a + S1x1x32x128.size a ≤ S1x4x32x128.size a
  | 0 => Nat.le_refl _
  | 1 => Nat.succ_le_of_lt k.2
  | 2 => Nat.le_refl _
  | 3 => Nat.le_refl _

/-- The anchor coordinates the point loads. -/
def rdAn (arg : Memref sig .tc .vmem S4x32x128 .f32) (f : arg.view.ty.Contents (Elt F)) (k : Fin 4) : Vec F S1x32x128 .f32 :=
  View.readAt (Elt F) arg.view (Rect.unit (s := S4x32x128) ![k.val, 0, 0] S1x32x128.size (inbAn k)).toLoadRect f

/-- The regressions the point loads. -/
def rdRe (arg : Memref sig .tc .vmem S1x4x32x128 .f32) (f : arg.view.ty.Contents (Elt F)) (k : Fin 4) : Vec F S1x1x32x128 .f32 :=
  View.readAt (Elt F) arg.view (Rect.unit (s := S1x4x32x128) ![0, k.val, 0, 0] S1x1x32x128.size (inbRe k)).toLoadRect f

/-- The scores the point loads. -/
def rdCl (arg : Memref sig .tc .vmem S1x4096x80 .f32) (f : arg.view.ty.Contents (Elt F)) : Vec F S1x4096x80 .f32 :=
  View.readAt (Elt F) arg.view (Rect.unit (s := S1x4096x80) ![0, 0, 0] S1x4096x80.size (fun _ => by decide +revert)).toLoadRect f

/-- What a grid point leaves, from what its two halves load. -/
def ptAll (i : grid0.Coords) (rd : Fin 32 → Fin 6 → F .f32) (c1 c2 : Vec F S1x4096x80 .f32) (r1 r2 : Fin 4 → Vec F S1x1x32x128 .f32)
    (n1 n2 : Fin 4 → Vec F S1x32x128 .f32) (xo : Vec F S4x1x128 .f32) : FVec F S4x1x128 .f32 :=
  ptV i (Scalar.addf (clfV (sweep n1 rd) c1) (clfV (sweep n2 rd) c2))
    (Scalar.addf (regV (anV (n1 0)) (anV (n1 1)) (anV (n1 2)) (anV (n1 3)) (sweep n1 rd) r1) (regV (anV (n2 0)) (anV (n2 1)) (anV (n2 2)) (anV (n2 3)) (sweep n2 rd) r2))
    (Scalar.addf (sumR (posV (sweep n1 rd))) (sumR (posV (sweep n2 rd)))) xo

end Cert.Own
-- ==== Proof.Point.lean ====
module

public import proofs.«01_k».proof.Proof.Block
public import Idealize.ShloMosaic.Lib.Pointwise
import Idealize.ShloMosaic.Lib.Pipeline.ValueKit
import Idealize.ShloMosaic.Lib.WholeRead

@[expose] public section

set_option maxRecDepth 16384

noncomputable section

namespace Cert.Own

open Idealize.ShloMosaic Idealize.ShloMosaic.TcCoe Idealize.ShloMosaic.Tactic
open Cert.KernelIdeal Cert.KernelIdeal.Gen

variable {F : FTy → Type} [FloatOps F]

/-- What a grid point leaves, from the blocks it holds. -/
def pt (i : grid0.Coords) (x0 : Vec F S4x32x6 .f32) (x1 : Vec F S1x4096x80 .f32) (x2 : Vec F S1x4096x80 .f32) (x3 : Vec F S1x4x32x128 .f32) (x4 : Vec F S1x4x32x128 .f32) (x5 : Vec F S4x32x128 .f32) (x6 : Vec F S4x32x128 .f32)
    (xo : Vec F S4x1x128 .f32) : FVec F S4x1x128 .f32 :=
  ptAll i (fun k j => x0 (ix3 (i 1) k j)) x1 x2 (fun k j => x3 (ix4 0 k (j 2) (j 3))) (fun k j => x4 (ix4 0 k (j 2) (j 3)))
    (fun k j => x5 (ix3 k (j 1) (j 2))) (fun k j => x6 (ix3 k (j 1) (j 2))) xo

/-- What an annotation load reads, from the contents of its window. -/
theorem rdA_eq (i : grid0.Coords) (arg2 : Memref sig .tc .smem S4x32x6 .f32) (harg2 : arg2.IsWhole) (x0 : Vec F S4x32x6 .f32) :
    rdA i arg2 (harg2.unread x0) = fun k j => x0 (ix3 (i 1) k j) := by
  funext k j
  unfold rdA
  rw [Memref.IsWhole.readAt_unread]
  congr 1
  have hb : (offA i k j) 0 = (i 1).val := by
    have := (i 1).isLt
    show (BitVec.ofNat 32 (i 1).val).toNat = (i 1).val
    rw [BitVec.toNat_ofNat]
    exact Nat.mod_eq_of_lt (by simp at this; omega)
  funext a
  fin_cases a
  · refine Fin.ext ?_
    simpa using hb
  · rfl
  · rfl

/-- What the score load reads, from the contents of its window. -/
theorem rdCl_eq (arg : Memref sig .tc .vmem S1x4096x80 .f32) (h : arg.IsWhole) (x : Vec F S1x4096x80 .f32) :
    rdCl arg (h.unread x) = x := by
  unfold rdCl
  rw [View.readAt_eq_ld, h.read_unread, View.ld_unit_lit _ _ (by decide)]

/-- What an anchor load reads, from the contents of its window. -/
theorem rdAn_eq (arg : Memref sig .tc .vmem S4x32x128 .f32) (h : arg.IsWhole) (x : Vec F S4x32x128 .f32) :
    rdAn arg (h.unread x) = fun k j => x (ix3 k (j 1) (j 2)) := by
  funext k j
  unfold rdAn
  rw [View.readAt_eq_ld, h.read_unread]
  pointwise []

/-- What a regression load reads, from the contents of its window. -/
theorem rdRe_eq (arg : Memref sig .tc .vmem S1x4x32x128 .f32) (h : arg.IsWhole) (x : Vec F S1x4x32x128 .f32) :
    rdRe arg (h.unread x) = fun k j => x (ix4 0 k (j 2) (j 3)) := by
  funext k j
  unfold rdRe
  rw [View.readAt_eq_ld, h.read_unread]
  pointwise []

/-- The stores of a point after the first: one store, of the block the specification names. -/
theorem run_B (c : Dev nD) (i : grid0.Coords) (arg2 : Memref sig .tc .smem S4x32x6 .f32) (harg2 : arg2.IsWhole) (arg3 : Memref sig .tc .vmem S1x4096x80 .f32) (harg3 : arg3.IsWhole) (arg4 : Memref sig .tc .vmem S1x4096x80 .f32) (harg4 : arg4.IsWhole) (arg5 : Memref sig .tc .vmem S1x4x32x128 .f32) (harg5 : arg5.IsWhole) (arg6 : Memref sig .tc .vmem S1x4x32x128 .f32) (harg6 : arg6.IsWhole) (arg7 : Memref sig .tc .vmem S4x32x128 .f32) (harg7 : arg7.IsWhole) (arg8 : Memref sig .tc .vmem S4x32x128 .f32) (harg8 : arg8.IsWhole) (arg9 : Memref sig .tc .vmem S4x1x128 .f32) (harg9 : arg9.IsWhole) (hc0 : ¬cond0_0 i)
    (x0 : Vec F S4x32x6 .f32) (x1 : Vec F S1x4096x80 .f32) (x2 : Vec F S1x4096x80 .f32) (x3 : Vec F S1x4x32x128 .f32) (x4 : Vec F S1x4x32x128 .f32) (x5 : Vec F S4x32x128 .f32) (x6 : Vec F S4x32x128 .f32) (xo7 : Vec F S4x1x128 .f32) :
    (kernelRun0_B c i arg2 harg2 arg3 harg3 arg4 harg4 arg5 harg5 arg6 harg6 arg7 harg7 arg8 harg8 arg9 harg9 hc0 x0 x1 x2 x3 x4 x5 x6 xo7).1
      = [⟨Rect.unit (s := S4x1x128) ![0, 0, 0] S4x1x128.size inb_S4x1x128_S4x1x128_0_0_0,
        ptAll i (rdA i arg2 (harg2.unread x0)) (rdCl arg3 (harg3.unread x1)) (rdCl arg4 (harg4.unread x2))
        (rdRe arg5 (harg5.unread x3)) (rdRe arg6 (harg6.unread x4)) (rdAn arg7 (harg7.unread x5)) (rdAn arg8 (harg8.unread x6))
        (View.readAt (Elt F) arg9.view (Rect.unit (s := S4x1x128) ![0, 0, 0] S4x1x128.size inb_S4x1x128_S4x1x128_0_0_0).toLoadRect (harg9.unread xo7))⟩] := by
  sl_kernel_rfl

/-- The stores of the first point: the block zeroed, then the store the specification names over it. -/
theorem run_A (c : Dev nD) (i : grid0.Coords) (arg2 : Memref sig .tc .smem S4x32x6 .f32) (harg2 : arg2.IsWhole) (arg3 : Memref sig .tc .vmem S1x4096x80 .f32) (harg3 : arg3.IsWhole) (arg4 : Memref sig .tc .vmem S1x4096x80 .f32) (harg4 : arg4.IsWhole) (arg5 : Memref sig .tc .vmem S1x4x32x128 .f32) (harg5 : arg5.IsWhole) (arg6 : Memref sig .tc .vmem S1x4x32x128 .f32) (harg6 : arg6.IsWhole) (arg7 : Memref sig .tc .vmem S4x32x128 .f32) (harg7 : arg7.IsWhole) (arg8 : Memref sig .tc .vmem S4x32x128 .f32) (harg8 : arg8.IsWhole) (arg9 : Memref sig .tc .vmem S4x1x128 .f32) (harg9 : arg9.IsWhole) (hc0 : cond0_0 i)
    (x0 : Vec F S4x32x6 .f32) (x1 : Vec F S1x4096x80 .f32) (x2 : Vec F S1x4096x80 .f32) (x3 : Vec F S1x4x32x128 .f32) (x4 : Vec F S1x4x32x128 .f32) (x5 : Vec F S4x32x128 .f32) (x6 : Vec F S4x32x128 .f32) :
    (kernelRun0_A c i arg2 harg2 arg3 harg3 arg4 harg4 arg5 harg5 arg6 harg6 arg7 harg7 arg8 harg8 arg9 harg9 hc0 x0 x1 x2 x3 x4 x5 x6).1
      = ⟨Rect.unit (s := S4x1x128) ![0, 0, 0] S4x1x128.size inb_S4x1x128_S4x1x128_0_0_0,
        ptAll i (rdA i arg2 (harg2.unread x0)) (rdCl arg3 (harg3.unread x1)) (rdCl arg4 (harg4.unread x2))
        (rdRe arg5 (harg5.unread x3)) (rdRe arg6 (harg6.unread x4)) (rdAn arg7 (harg7.unread x5)) (rdAn arg8 (harg8.unread x6))
        (kernelRun0_A.sl.v3749 c arg9)⟩ :: kernelRun0_A.sl.H7_1 := by
  sl_kernel_rfl

/-- A later point leaves the specification's block over what the point before left. -/
theorem out_B (c : Dev nD) (i : grid0.Coords) (arg2 : Memref sig .tc .smem S4x32x6 .f32) (harg2 : arg2.IsWhole) (arg3 : Memref sig .tc .vmem S1x4096x80 .f32) (harg3 : arg3.IsWhole) (arg4 : Memref sig .tc .vmem S1x4096x80 .f32) (harg4 : arg4.IsWhole) (arg5 : Memref sig .tc .vmem S1x4x32x128 .f32) (harg5 : arg5.IsWhole) (arg6 : Memref sig .tc .vmem S1x4x32x128 .f32) (harg6 : arg6.IsWhole) (arg7 : Memref sig .tc .vmem S4x32x128 .f32) (harg7 : arg7.IsWhole) (arg8 : Memref sig .tc .vmem S4x32x128 .f32) (harg8 : arg8.IsWhole) (arg9 : Memref sig .tc .vmem S4x1x128 .f32) (harg9 : arg9.IsWhole) (hc0 : ¬cond0_0 i)
    (x0 : Vec F S4x32x6 .f32) (x1 : Vec F S1x4096x80 .f32) (x2 : Vec F S1x4096x80 .f32) (x3 : Vec F S1x4x32x128 .f32) (x4 : Vec F S1x4x32x128 .f32) (x5 : Vec F S4x32x128 .f32) (x6 : Vec F S4x32x128 .f32) (xo7 : Vec F S4x1x128 .f32) :
    out0_B_7 c i arg2 harg2 arg3 harg3 arg4 harg4 arg5 harg5 arg6 harg6 arg7 harg7 arg8 harg8 arg9 harg9 hc0 x0 x1 x2 x3 x4 x5 x6 xo7 = pt i x0 x1 x2 x3 x4 x5 x6 xo7 := by
  unfold out0_B_7
  rw [run_B, View.read_writes_junk_eq_canon, View.canon_cons_unit_lit _ _ _ (by decide), rdA_eq, rdCl_eq, rdCl_eq, rdRe_eq, rdRe_eq, rdAn_eq, rdAn_eq,
    View.readAt_eq_ld, harg9.read_unread, View.ld_unit_lit _ _ (by decide)]
  rfl

/-- The first point leaves the specification's block over zeros. -/
theorem out_A (c : Dev nD) (i : grid0.Coords) (arg2 : Memref sig .tc .smem S4x32x6 .f32) (harg2 : arg2.IsWhole) (arg3 : Memref sig .tc .vmem S1x4096x80 .f32) (harg3 : arg3.IsWhole) (arg4 : Memref sig .tc .vmem S1x4096x80 .f32) (harg4 : arg4.IsWhole) (arg5 : Memref sig .tc .vmem S1x4x32x128 .f32) (harg5 : arg5.IsWhole) (arg6 : Memref sig .tc .vmem S1x4x32x128 .f32) (harg6 : arg6.IsWhole) (arg7 : Memref sig .tc .vmem S4x32x128 .f32) (harg7 : arg7.IsWhole) (arg8 : Memref sig .tc .vmem S4x32x128 .f32) (harg8 : arg8.IsWhole) (arg9 : Memref sig .tc .vmem S4x1x128 .f32) (harg9 : arg9.IsWhole) (hc0 : cond0_0 i)
    (x0 : Vec F S4x32x6 .f32) (x1 : Vec F S1x4096x80 .f32) (x2 : Vec F S1x4096x80 .f32) (x3 : Vec F S1x4x32x128 .f32) (x4 : Vec F S1x4x32x128 .f32) (x5 : Vec F S4x32x128 .f32) (x6 : Vec F S4x32x128 .f32) :
    out0_A_7 c i arg2 harg2 arg3 harg3 arg4 harg4 arg5 harg5 arg6 harg6 arg7 harg7 arg8 harg8 arg9 harg9 hc0 x0 x1 x2 x3 x4 x5 x6 = pt i x0 x1 x2 x3 x4 x5 x6 (broadcast S4x1x128 (Scalar.ofBits .f32 0x00000000#32)) := by
  unfold out0_A_7
  rw [run_A, View.read_writes_junk_eq_canon, View.canon_cons_unit_lit _ _ _ (by decide), rdA_eq, rdCl_eq, rdCl_eq, rdRe_eq, rdRe_eq, rdAn_eq, rdAn_eq]
  unfold kernelRun0_A.sl.v3749 kernelRun0_A.sl.H7_1
  rw [View.readCov_unit_lit _ _ _ (by decide)]
  rfl

end Cert.Own
-- ==== Proof.Scal.lean ====
module

public import Idealize.ShloMosaic.Lib.Pointwise

@[expose] public section

noncomputable section

namespace Cert.Own

open Idealize.ShloMosaic

/-- The number a printed constant denotes. -/
abbrev fb (w : BitVec 32) : EReal := Ideal.ofBits .f32 w

/-- The overlap of an anchor with a box, the two areas given. -/
def iouS (a1 a2 a3 a4 ar x1 y1 x2 y2 ab : EReal) : EReal :=
  Ideal.div (max 0 (min a3 x2 - max a1 x1) * max 0 (min a4 y2 - max a2 y1))
    (max (fb 0x322BCC77#32) (ar + ab - max 0 (min a3 x2 - max a1 x1) * max 0 (min a4 y2 - max a2 y1)))

/-- The largest of the first `n + 1` values and where it is first reached. -/
def pickN (v : Fin 32 → EReal) : (n : ℕ) → n < 32 → EReal × Fin 32
  | 0, h => (v ⟨0, h⟩, ⟨0, h⟩)
  | n + 1, h => if (pickN v n (Nat.lt_of_succ_lt h)).1 < v ⟨n + 1, h⟩ then (v ⟨n + 1, h⟩, ⟨n + 1, h⟩) else pickN v n (Nat.lt_of_succ_lt h)

/-- The largest of the 32 values and where it is first reached. -/
def pick (v : Fin 32 → EReal) : EReal × Fin 32 := pickN v 31 (by decide)

/-- One for a positive anchor, else zero. -/
def posS (best : EReal) : EReal := if fb 0x3DCCCCCD#32 < best then 1 else 0

/-- One for an anchor that takes part in the classification loss, else zero. -/
def valS (best : EReal) : EReal := if best ≤ fb 0x3C23D70A#32 then 1 else posS best

/-- The centre target along one axis. -/
def tdS (lo hi g1 g2 : EReal) : EReal :=
  Ideal.div (Ideal.div ((g1 + fb 0x3F000000#32 * (g2 - g1)) - (lo + fb 0x3F000000#32 * (hi - lo))) (hi - lo)) (fb 0x3DCCCCCD#32)

/-- The size target along one axis. -/
def tsS (lo hi g1 g2 : EReal) : EReal :=
  Ideal.div (Ideal.log (Ideal.div (max 1 (g2 - g1)) (hi - lo))) (fb 0x3E4CCCCD#32)

/-- The smooth L1 term. -/
def rlS (t r : EReal) : EReal :=
  if FloatOps.absf (F := Ideal) (φ := .f32) (t - r) < fb 0x3DE38E39#32 then
    fb 0x40900000#32 * (FloatOps.absf (F := Ideal) (φ := .f32) (t - r) * FloatOps.absf (F := Ideal) (φ := .f32) (t - r))
  else FloatOps.absf (F := Ideal) (φ := .f32) (t - r) - fb 0x3D638E39#32

/-- The smooth L1 term of coordinate `k` of an anchor `a` against its box `g`. -/
def rkS (a g : Fin 4 → EReal) (r : Fin 4 → EReal) : Fin 4 → EReal
  | 0 => rlS (tdS (a 0) (a 2) (g 0) (g 2)) (r 0)
  | 1 => rlS (tdS (a 1) (a 3) (g 1) (g 3)) (r 1)
  | 2 => rlS (tsS (a 0) (a 2) (g 0) (g 2)) (r 2)
  | 3 => rlS (tsS (a 1) (a 3) (g 1) (g 3)) (r 3)

/-- The regression loss of one anchor. -/
def regS (best : EReal) (a g r : Fin 4 → EReal) : EReal :=
  posS best * (rkS a g r 0 + rkS a g r 1 + rkS a g r 2 + rkS a g r 3)

/-- The score clipped. -/
def clipS (x : EReal) : EReal := min (fb 0x3F7FF972#32) (max (fb 0x38D1B717#32) x)

/-- The focal term of a score whose target is zero. -/
def f0S (c : EReal) : EReal := fb 0x3F400000#32 * (c * c) * (0 - Ideal.log (1 - c))

/-- The focal term of a score whose target is one. -/
def f1S (c : EReal) : EReal := fb 0x3E800000#32 * ((1 - c) * (1 - c)) * (0 - Ideal.log c)

/-- The score at the label. -/
def selS (lab : EReal) (c : Fin 80 → EReal) : EReal :=
  ∑ j : Fin 80, if BitVec.ofNat 32 j = FloatOps.fptosi (F := Ideal) (φ := .f32) 32 lab then c j else 0

/-- The classification loss of one anchor. -/
def clfS (best lab : EReal) (c : Fin 80 → EReal) : EReal :=
  valS best * (∑ j, f0S (c j)) + posS best * (f1S (selS lab c) - f0S (selS lab c))

end Cert.Own
-- ==== Proof.BlockAt.lean ====
module

public import proofs.«01_k».proof.Proof.Block
public import proofs.«01_k».proof.Proof.Scal

@[expose] public section

set_option maxRecDepth 16384

noncomputable section

namespace Cert.Own

open Idealize.ShloMosaic Idealize.ShloMosaic.TcCoe
open Cert.KernelIdeal Cert.KernelIdeal.Gen

/-- A choice by equality of words is the choice by that equality. -/
theorem sel_eq {α : Type} {w : ℕ} (a b : BitVec w) (x y : α) : Scalar.select (IntOp.cmpi .eq a b) x y = if a = b then x else y := by
  by_cases h : a = b
  · subst h; simp [Scalar.select, IntOp.cmpi]
  · have : (a == b) = false := by simpa using h
    simp [Scalar.select, IntOp.cmpi, h, this]

/-- The overlap of a block with a box, at an anchor. -/
theorem iouV_at (a1 a2 a3 a4 ar : Row Ideal) (b : Fin 6 → EReal) (r : Fin 32) (l : Fin 128) :
    iouV (F := Ideal) a1 a2 a3 a4 ar b (ix2 r l) = iouS (a1 (ix2 r l)) (a2 (ix2 r l)) (a3 (ix2 r l)) (a4 (ix2 r l)) (ar (ix2 r l)) (b 0) (b 1) (b 2) (b 3) (b 4) := by
  pointwise [iouV, iouS]

/-- The positive indicator, at an anchor. -/
theorem posV_at (s : St Ideal) (r : Fin 32) (l : Fin 128) : posV s (ix2 r l) = posS (s.best (ix2 r l)) := by
  pointwise [posV, posS]
  by_cases h : Ideal.ofBits FTy.f32 1036831949#32 < s.best (ix2 r l) <;> simp [h, FloatOps.sitofp]

/-- The indicator of taking part, at an anchor. -/
theorem valV_at (s : St Ideal) (r : Fin 32) (l : Fin 128) : valV s (ix2 r l) = valS (s.best (ix2 r l)) := by
  unfold valV valS
  pointwise [posV_at]

/-- The centre target, at an anchor. -/
theorem tdV_at (lo hi g1 g2 : Row Ideal) (r : Fin 32) (l : Fin 128) : tdV lo hi g1 g2 (ix2 r l) = tdS (lo (ix2 r l)) (hi (ix2 r l)) (g1 (ix2 r l)) (g2 (ix2 r l)) := by
  pointwise [tdV, tdS]

/-- The size target, at an anchor. -/
theorem tsV_at (lo hi g1 g2 : Row Ideal) (r : Fin 32) (l : Fin 128) : tsV lo hi g1 g2 (ix2 r l) = tsS (lo (ix2 r l)) (hi (ix2 r l)) (g1 (ix2 r l)) (g2 (ix2 r l)) := by
  pointwise [tsV, tsS]

/-- The smooth L1 term, at an anchor. -/
theorem rlV_at (t : Row Ideal) (x : Vec Ideal S1x1x32x128 .f32) (r : Fin 32) (l : Fin 128) : rlV t x (ix2 r l) = rlS (t (ix2 r l)) (x (ix4 0 0 r l)) := by
  pointwise [rlV, rlS]

/-- The sum of a block is the sum over its rows and lanes. -/
theorem sumR_at (t : Row Ideal) : sumR t = ∑ r : Fin 32, ∑ l : Fin 128, t (ix2 r l) := by
  pointwise [sumR]

/-- The clipped and transposed scores, at an entry. -/
theorem clsV_at (x : Vec Ideal S1x4096x80 .f32) (j : Fin 80) (q : Fin 4096) : clsV x (ix2 j q) = clipS (x (ix3 0 q j)) := by
  pointwise [clsV, clipS]

/-- The terms of target zero summed over the classes, at an anchor. -/
theorem srowV_at (x : FVec Ideal S80x4096 .f32) (q : Fin 4096) : srowV x (ix1 q) = ∑ j : Fin 80, f0S (x (ix2 j q)) := by
  pointwise [srowV, f0S]

/-- The row of flat anchor `q`. -/
abbrev qr (q : Fin 4096) : Fin 32 := ⟨q.val / 128, by omega⟩
/-- The lane of flat anchor `q`. -/
abbrev ql (q : Fin 4096) : Fin 128 := ⟨q.val % 128, by omega⟩

/-- The score at the label, at an anchor. -/
theorem selV_at (s : Row Ideal) (x : FVec Ideal S80x4096 .f32) (q : Fin 4096) :
    selV s x (ix1 q) = selS (s (ix2 (qr q) (ql q))) (fun j => x (ix2 j q)) := by
  unfold selV selS
  pointwise []
  simp only [sel_eq]

/-- A sum over rows and lanes is the sum over the flat anchors. -/
theorem sum_rows (f : Fin 32 → Fin 128 → EReal) : ∑ r, ∑ l, f r l = ∑ q : Fin 4096, f (qr q) (ql q) := by
  rw [← Fintype.sum_prod_type', ← (finProdFinEquiv (m := 32) (n := 128)).symm.sum_comp]
  rfl

/-- The overlaps of an anchor with the 32 boxes. -/
def iousA (a : Fin 4 → EReal) (rd : Fin 32 → Fin 6 → EReal) : Fin 32 → EReal := fun k =>
  iouS (a 0) (a 1) (a 2) (a 3) ((a 2 - a 0) * (a 3 - a 1)) (rd k 0) (rd k 1) (rd k 2) (rd k 3) (rd k 4)

/-- The sweep's state at one anchor is the picked annotation's row. -/
theorem stN_at (a1 a2 a3 a4 ar : Row Ideal) (rd : Fin 32 → Fin 6 → EReal) (r : Fin 32) (l : Fin 128) (v : Fin 32 → EReal)
    (hv : ∀ k, v k = iouS (a1 (ix2 r l)) (a2 (ix2 r l)) (a3 (ix2 r l)) (a4 (ix2 r l)) (ar (ix2 r l)) (rd k 0) (rd k 1) (rd k 2) (rd k 3) (rd k 4))
    (n : ℕ) (h : n < 32) :
    (stN (F := Ideal) a1 a2 a3 a4 ar rd n h).best (ix2 r l) = (pickN v n h).1
    ∧ (stN (F := Ideal) a1 a2 a3 a4 ar rd n h).x1 (ix2 r l) = rd (pickN v n h).2 0
    ∧ (stN (F := Ideal) a1 a2 a3 a4 ar rd n h).y1 (ix2 r l) = rd (pickN v n h).2 1
    ∧ (stN (F := Ideal) a1 a2 a3 a4 ar rd n h).x2 (ix2 r l) = rd (pickN v n h).2 2
    ∧ (stN (F := Ideal) a1 a2 a3 a4 ar rd n h).y2 (ix2 r l) = rd (pickN v n h).2 3
    ∧ (stN (F := Ideal) a1 a2 a3 a4 ar rd n h).lab (ix2 r l) = rd (pickN v n h).2 5 := by
  induction n with
  | zero => exact ⟨by simp only [stN, st0, iouV_at, pickN, hv], rfl, rfl, rfl, rfl, rfl⟩
  | succ n ih =>
    obtain ⟨i1, i2, i3, i4, i5, i6⟩ := ih (Nat.lt_of_succ_lt h)
    have hc : cmpf (F := Ideal) .ogt (iouV (F := Ideal) a1 a2 a3 a4 ar (rd ⟨n + 1, h⟩)) (stN (F := Ideal) a1 a2 a3 a4 ar rd n (Nat.lt_of_succ_lt h)).best (ix2 r l)
        = BitVec.ofBool (decide ((pickN v n (Nat.lt_of_succ_lt h)).1 < v ⟨n + 1, h⟩)) := by
      rw [← i1, hv, ← iouV_at]; rfl
    have key : ∀ (x y : Row Ideal), select (cmpf (F := Ideal) .ogt (iouV (F := Ideal) a1 a2 a3 a4 ar (rd ⟨n + 1, h⟩)) (stN (F := Ideal) a1 a2 a3 a4 ar rd n (Nat.lt_of_succ_lt h)).best) x y (ix2 r l)
        = if (pickN v n (Nat.lt_of_succ_lt h)).1 < v ⟨n + 1, h⟩ then x (ix2 r l) else y (ix2 r l) := by
      intro x y
      show Scalar.select _ _ _ = _
      rw [hc]
      by_cases hb : (pickN v n (Nat.lt_of_succ_lt h)).1 < v ⟨n + 1, h⟩ <;> simp [Scalar.select, hb]
    simp only [stN, stS, key, pickN, i1, i2, i3, i4, i5, i6]
    by_cases hb : (pickN v n (Nat.lt_of_succ_lt h)).1 < v ⟨n + 1, h⟩
    · simp only [if_pos hb]
      exact ⟨by rw [iouV_at, hv], rfl, rfl, rfl, rfl, rfl⟩
    · simp only [if_neg hb]
      exact ⟨trivial, trivial, trivial, trivial, trivial, trivial⟩

/-- The anchor at a flat position of a half block. -/
abbrev anQ (an : Fin 4 → Vec Ideal S1x32x128 .f32) (q : Fin 4096) : Fin 4 → EReal := fun k => an k (ix3 0 (qr q) (ql q))

/-- A coordinate plane of the anchors, at an anchor. -/
theorem anV_at (v : Vec Ideal S1x32x128 .f32) (r : Fin 32) (l : Fin 128) : anV v (ix2 r l) = v (ix3 0 r l) := by
  pointwise [anV]

/-- The picked annotation of the anchor at a flat position. -/
abbrev pkQ (an : Fin 4 → Vec Ideal S1x32x128 .f32) (rd : Fin 32 → Fin 6 → EReal) (q : Fin 4096) : EReal × Fin 32 := pick (iousA (anQ an q) rd)

/-- The sweep over the 32 boxes, at an anchor: the picked overlap and the picked row. -/
theorem sweep_at (an : Fin 4 → Vec Ideal S1x32x128 .f32) (rd : Fin 32 → Fin 6 → EReal) (q : Fin 4096) :
    (sweep (F := Ideal) an rd).best (ix2 (qr q) (ql q)) = (pkQ an rd q).1
    ∧ (sweep (F := Ideal) an rd).x1 (ix2 (qr q) (ql q)) = rd (pkQ an rd q).2 0
    ∧ (sweep (F := Ideal) an rd).y1 (ix2 (qr q) (ql q)) = rd (pkQ an rd q).2 1
    ∧ (sweep (F := Ideal) an rd).x2 (ix2 (qr q) (ql q)) = rd (pkQ an rd q).2 2
    ∧ (sweep (F := Ideal) an rd).y2 (ix2 (qr q) (ql q)) = rd (pkQ an rd q).2 3
    ∧ (sweep (F := Ideal) an rd).lab (ix2 (qr q) (ql q)) = rd (pkQ an rd q).2 5 :=
  stN_at _ _ _ _ _ rd (qr q) (ql q) (iousA (anQ an q) rd) (fun k => by
    unfold iousA
    simp only [anV_at]
    congr 1
    show (an 2 _ - an 0 _) * (an 3 _ - an 1 _) = (anV (an 2) _ - anV (an 0) _) * (anV (an 3) _ - anV (an 1) _)
    simp only [anV_at]) 31 (by decide)

/-- A half block's number of positive anchors. -/
theorem nposV_at (an : Fin 4 → Vec Ideal S1x32x128 .f32) (rd : Fin 32 → Fin 6 → EReal) :
    sumR (posV (sweep (F := Ideal) an rd)) = ∑ q : Fin 4096, posS (pkQ an rd q).1 := by
  rw [sumR_at, sum_rows]
  exact Finset.sum_congr rfl fun q _ => by rw [posV_at, (sweep_at an rd q).1]

/-- A half block's regression loss. -/
theorem regV_at (an : Fin 4 → Vec Ideal S1x32x128 .f32) (rd : Fin 32 → Fin 6 → EReal) (re : Fin 4 → Vec Ideal S1x1x32x128 .f32) :
    regV (F := Ideal) (anV (an 0)) (anV (an 1)) (anV (an 2)) (anV (an 3)) (sweep (F := Ideal) an rd) re
      = ∑ q : Fin 4096, regS (pkQ an rd q).1 (anQ an q) (fun k => rd (pkQ an rd q).2 (k.castLE (by decide))) (fun k => re k (ix4 0 0 (qr q) (ql q))) := by
  unfold regV
  rw [sumR_at, sum_rows]
  refine Finset.sum_congr rfl fun q _ => ?_
  obtain ⟨i1, i2, i3, i4, i5, i6⟩ := sweep_at an rd q
  pointwise [posV_at, rlV_at, tdV_at, tsV_at, anV_at, i1, i2, i3, i4, i5]
  rfl

/-- A half block's classification loss. -/
theorem clfV_at (an : Fin 4 → Vec Ideal S1x32x128 .f32) (rd : Fin 32 → Fin 6 → EReal) (c : Vec Ideal S1x4096x80 .f32) :
    clfV (F := Ideal) (sweep (F := Ideal) an rd) c
      = ∑ q : Fin 4096, clfS (pkQ an rd q).1 (rd (pkQ an rd q).2 5) (fun j => clipS (c (ix3 0 q j))) := by
  unfold clfV
  pointwise []
  refine Finset.sum_congr rfl fun q _ => ?_
  obtain ⟨i1, i2, i3, i4, i5, i6⟩ := sweep_at an rd q
  rw [valV_at, posV_at, srowV_at, selV_at, i1, i6]
  simp only [clsV_at]
  rfl

/-- What a grid point adds to one entry of the output block. -/
theorem ptV_at (i : grid0.Coords) (clf reg np : EReal) (xo : Vec Ideal S4x1x128 .f32) (b : Fin 4) (l : Fin 128) :
    ptV (F := Ideal) i clf reg np xo (ix3 b 0 l) = xo (ix3 b 0 l) +
      (if b.val = (i 1).val then (if l.val = 0 then clf else 0) + (if l.val = 1 then reg else 0) + (if l.val = 2 then np else 0) else 0) := by
  unfold ptV
  pointwise []
  have e (n m : ℕ) (hn : n < 128) (hm : m < 128) : (BitVec.ofNat 32 n = BitVec.ofNat 32 m) ↔ n = m := by
    rw [← BitVec.toNat_inj, BitVec.toNat_ofNat, BitVec.toNat_ofNat, Nat.mod_eq_of_lt (by omega), Nat.mod_eq_of_lt (by omega)]
  have h4 : (i 1).val < 4 := (i 1).isLt
  simp only [sel_eq, e b.val (i 1).val (by omega) (by omega), e l.val 0 l.2 (by omega), e l.val 1 l.2 (by omega), e l.val 2 l.2 (by omega)]

end Cert.Own
-- ==== Proof.Spec.lean ====
module

public import proofs.«01_k».proof.Proof.Scal

@[expose] public section

noncomputable section

namespace Cert.Own

open Idealize.ShloMosaic

variable (c : Fin 4 → Fin 65536 → Fin 80 → EReal) (re : Fin 4 → Fin 65536 → Fin 4 → EReal)
  (an : Fin 65536 → Fin 4 → EReal) (ann : Fin 4 → Fin 32 → Fin 5 → EReal)

/-- The overlaps of anchor `a` with the boxes of image `b`. -/
def iousP (b : Fin 4) (a : Fin 65536) : Fin 32 → EReal := fun k =>
  iouS (an a 0) (an a 1) (an a 2) (an a 3) ((an a 2 - an a 0) * (an a 3 - an a 1))
    (ann b k 0) (ann b k 1) (ann b k 2) (ann b k 3) ((ann b k 2 - ann b k 0) * (ann b k 3 - ann b k 1))

/-- The best overlap of anchor `a` in image `b`, and the box that reaches it. -/
def pkP (b : Fin 4) (a : Fin 65536) : EReal × Fin 32 := pick (iousP an ann b a)

/-- The classification loss of one anchor of one image. -/
def clfP (b : Fin 4) (a : Fin 65536) : EReal := clfS (pkP an ann b a).1 (ann b (pkP an ann b a).2 4) (fun j => clipS (c b a j))

/-- The regression loss of one anchor of one image. -/
def regP (b : Fin 4) (a : Fin 65536) : EReal :=
  regS (pkP an ann b a).1 (an a) (fun k => ann b (pkP an ann b a).2 (k.castLE (by decide))) (re b a)

/-- One for a positive anchor of the image, else zero. -/
def posP (b : Fin 4) (a : Fin 65536) : EReal := posS (pkP an ann b a).1

/-- The mean over the images of the classification losses. -/
def resClf : EReal := Ideal.div (∑ b, Ideal.div (∑ a, clfP c an ann b a) (max 1 (∑ a, posP an ann b a))) (fb 0x40800000#32)

/-- The mean over the images of the regression losses. -/
def resReg : EReal := Ideal.div (∑ b, Ideal.div (∑ a, regP re an ann b a) (max 1 ((∑ a, posP an ann b a) * fb 0x40800000#32))) (fb 0x40800000#32)

end Cert.Own
-- ==== Proof.Kern.lean ====
module

public import proofs.«01_k».proof.Proof.Point
public import proofs.«01_k».proof.Proof.BlockAt
public import proofs.«01_k».proof.Proof.Spec
public import Idealize.ShloMosaic.Lib.Pipeline.ValueKit
public import Idealize.ShloMosaic.Lib.StableHlo.ReadAt

@[expose] public section

set_option maxRecDepth 16384

noncomputable section

namespace Cert.Own

open Idealize.ShloMosaic Idealize.ShloMosaic.TcCoe Idealize.ShloMosaic.Tactic
open Cert.KernelIdeal Cert.KernelIdeal.Gen

variable (m : (ℓ : Loc nD τ sig) → Buf (Elt Ideal) ℓ) (d : Dev nD)

/-- Anchor coordinates as the region finds them. -/
theorem an_at (k : Fin 4) (r : Fin 512) (l : Fin 128) : V m d main_v2 (ix3 k r l) = m (d.tc.loc main_arg2) (ix3 0 ⟨r.val * 128 + l.val, by omega⟩ k) := by
  unfold V V0
  simp only [List.flatten_cons, List.flatten_nil, List.append_nil]
  after_reads_at

/-- Regressions as the region finds them. -/
theorem re_at (b : Fin 4) (k : Fin 4) (r : Fin 512) (l : Fin 128) : V m d main_v4 (ix4 b k r l) = m (d.tc.loc main_arg1) (ix3 b ⟨r.val * 128 + l.val, by omega⟩ k) := by
  unfold V V0
  simp only [List.flatten_cons, List.flatten_nil, List.append_nil]
  after_reads_at

/-- Scores as the region finds them. -/
theorem cl_at (b : Fin 4) (a : Fin 65536) (k : Fin 80) : V m d main_arg0 (ix3 b a k) = m (d.tc.loc main_arg0) (ix3 b a k) := by
  unfold V V0
  simp only [List.flatten_cons, List.flatten_nil, List.append_nil]
  after_reads_at

/-- The scores. -/
def cA : Fin 4 → Fin 65536 → Fin 80 → EReal := fun b a j => m (d.tc.loc main_arg0) (ix3 b a j)
/-- The regressions. -/
def rA : Fin 4 → Fin 65536 → Fin 4 → EReal := fun b a j => m (d.tc.loc main_arg1) (ix3 b a j)
/-- The anchors. -/
def aA : Fin 65536 → Fin 4 → EReal := fun a j => m (d.tc.loc main_arg2) (ix3 0 a j)
/-- The annotations. -/
def nA : Fin 4 → Fin 32 → Fin 5 → EReal := fun b k j => m (d.tc.loc main_arg3) (ix3 b k j)

/-- The six entries of a row of the annotations as the region finds them. -/
def rowA (g : Fin 5 → EReal) : Fin 6 → EReal := ![g 0, g 1, g 2, g 3, (g 2 - g 0) * (g 3 - g 1), g 4]

/-- An annotation's row as the region finds it: the box, its area, the label. -/
theorem ann_at (b : Fin 4) (k : Fin 32) (j : Fin 6) : V m d main_v19 (ix3 b k j) = rowA (nA m d b k) j := by
  unfold V V0
  simp only [List.flatten_cons, List.flatten_nil, List.append_nil]
  fin_cases j
  all_goals
    simp only [Fin.reduceFinMk, Fin.zero_eta, Fin.mk_one]
    after_reads_at
    simp only [StableHlo.unary_result', StableHlo.reshape_result']
    try after_reads_at
    rfl

/-- Which block of its array each window holds at a grid point. -/
theorem idxs : ∀ t : Fin cfg0.N, (cfg0.win 0).index t = ![0,0,0] ∧ (cfg0.win 1).index t = ![t.val % 4, 2 * (t.val / 4), 0]
   ∧ (cfg0.win 2).index t = ![t.val % 4, 2 * (t.val / 4) + 1, 0]
   ∧ (cfg0.win 3).index t = ![t.val % 4, 0, 2 * (t.val / 4), 0]
   ∧ (cfg0.win 4).index t = ![t.val % 4, 0, 2 * (t.val / 4) + 1, 0]
   ∧ (cfg0.win 5).index t = ![0, 2 * (t.val / 4), 0]
   ∧ (cfg0.win 6).index t = ![0, 2 * (t.val / 4) + 1, 0]
   ∧ (cfg0.grid.coords t 1).val = t.val % 4 := by decide +kernel

/-- The grid has 32 points. -/
theorem ltN (t : Fin cfg0.N) : t.val < 32 := t.2

/-- The image of a grid point. -/
abbrev bt (t : Fin cfg0.N) : Fin 4 := ⟨t.val % 4, Nat.mod_lt _ (by decide)⟩

/-- The anchor at flat position `q` of half block `g`. -/
def fa (g : ℕ) (q : Fin 4096) : Fin 65536 := ⟨(g * 4096 + q.val) % 65536, Nat.mod_lt _ (by decide)⟩

/-- The position of an anchor of a half block. -/
theorem fa_val (g : ℕ) (q : Fin 4096) (h : g < 16) : (fa g q).val = g * 4096 + q.val := Nat.mod_eq_of_lt (by omega)

/-- The annotation window's block is the whole array. -/
theorem blk0 (t : Fin cfg0.N) (b : Fin 4) (k : Fin 32) (j : Fin 6) : iblk m d 0 t (ix3 b k j) = V m d main_v19 (ix3 b k j) := by
  obtain ⟨h0, h1, h2, h3, h4, h5, h6, h8⟩ := idxs t
  blk_ext [iblk, h0]

/-- The first score window's block. -/
theorem blk1 (t : Fin cfg0.N) (q : Fin 4096) (j : Fin 80) : iblk m d 1 t (ix3 0 q j) = cA m d (bt t) (fa (2 * (t.val / 4)) q) j := by
  have ht := ltN t
  rw [cA, ← cl_at m d]
  have hf := fa_val (2 * (t.val / 4)) q (by omega)
  obtain ⟨h0, h1, h2, h3, h4, h5, h6, h8⟩ := idxs t
  blk_ext [iblk, h1, hf]

/-- The second score window's block. -/
theorem blk2 (t : Fin cfg0.N) (q : Fin 4096) (j : Fin 80) : iblk m d 2 t (ix3 0 q j) = cA m d (bt t) (fa (2 * (t.val / 4) + 1) q) j := by
  have ht := ltN t
  rw [cA, ← cl_at m d]
  have hf := fa_val (2 * (t.val / 4) + 1) q (by omega)
  obtain ⟨h0, h1, h2, h3, h4, h5, h6, h8⟩ := idxs t
  blk_ext [iblk, h2, hf]

/-- A regression of the argument as the region finds it. -/
theorem re_at' (b : Fin 4) (a : Fin 65536) (k : Fin 4) : rA m d b a k = V m d main_v4 (ix4 b k ⟨a.val / 128, by omega⟩ ⟨a.val % 128, by omega⟩) := by
  rw [re_at, rA]
  congr 2
  exact Fin.ext (by simp; omega)

/-- An anchor coordinate of the argument as the region finds it. -/
theorem an_at' (a : Fin 65536) (k : Fin 4) : aA m d a k = V m d main_v2 (ix3 k ⟨a.val / 128, by omega⟩ ⟨a.val % 128, by omega⟩) := by
  rw [an_at, aA]
  congr 2
  exact Fin.ext (by simp; omega)

/-- The first regression window's block. -/
theorem blk3 (t : Fin cfg0.N) (q : Fin 4096) (k : Fin 4) : iblk m d 3 t (ix4 0 k (qr q) (ql q)) = rA m d (bt t) (fa (2 * (t.val / 4)) q) k := by
  have ht := ltN t
  rw [re_at']
  have hf := fa_val (2 * (t.val / 4)) q (by omega)
  obtain ⟨h0, h1, h2, h3, h4, h5, h6, h8⟩ := idxs t
  blk_ext [iblk, h3, hf]

/-- The second regression window's block. -/
theorem blk4 (t : Fin cfg0.N) (q : Fin 4096) (k : Fin 4) : iblk m d 4 t (ix4 0 k (qr q) (ql q)) = rA m d (bt t) (fa (2 * (t.val / 4) + 1) q) k := by
  have ht := ltN t
  rw [re_at']
  have hf := fa_val (2 * (t.val / 4) + 1) q (by omega)
  obtain ⟨h0, h1, h2, h3, h4, h5, h6, h8⟩ := idxs t
  blk_ext [iblk, h4, hf]

/-- The first anchor window's block. -/
theorem blk5 (t : Fin cfg0.N) (q : Fin 4096) (k : Fin 4) : iblk m d 5 t (ix3 k (qr q) (ql q)) = aA m d (fa (2 * (t.val / 4)) q) k := by
  have ht := ltN t
  rw [an_at']
  have hf := fa_val (2 * (t.val / 4)) q (by omega)
  obtain ⟨h0, h1, h2, h3, h4, h5, h6, h8⟩ := idxs t
  blk_ext [iblk, h5, hf]

/-- The second anchor window's block. -/
theorem blk6 (t : Fin cfg0.N) (q : Fin 4096) (k : Fin 4) : iblk m d 6 t (ix3 k (qr q) (ql q)) = aA m d (fa (2 * (t.val / 4) + 1) q) k := by
  have ht := ltN t
  rw [an_at']
  have hf := fa_val (2 * (t.val / 4) + 1) q (by omega)
  obtain ⟨h0, h1, h2, h3, h4, h5, h6, h8⟩ := idxs t
  blk_ext [iblk, h6, hf]

end Cert.Own
-- ==== Proof.Acc.lean ====
module

public import proofs.«01_k».proof.Proof.Kern
public import Mathlib.Logic.Equiv.Fin.Basic

@[expose] public section

set_option maxRecDepth 16384

noncomputable section

namespace Cert.Own

open Idealize.ShloMosaic Idealize.ShloMosaic.TcCoe Idealize.ShloMosaic.Tactic
open Cert.KernelIdeal Cert.KernelIdeal.Gen

variable (m : (ℓ : Loc nD τ sig) → Buf (Elt Ideal) ℓ) (d : Dev nD)

/-- What one anchor of one image adds to the output block's lane: its two losses and the count of positives. -/
def laneP (l : Fin 3) (b : Fin 4) (a : Fin 65536) : EReal :=
  ![clfP (cA m d) (aA m d) (nA m d) b a, regP (rA m d) (aA m d) (nA m d) b a, posP (aA m d) (nA m d) b a] l

/-- A sum over a half block. -/
def hs (f : Fin 65536 → EReal) (g : ℕ) : EReal := ∑ q : Fin 4096, f (fa g q)

/-- The three sums of a half block, in the arguments. -/
theorem half_at (b : Fin 4) (g : ℕ) (rd : Fin 32 → Fin 6 → EReal) (an : Fin 4 → Vec Ideal S1x32x128 .f32)
    (re : Fin 4 → Vec Ideal S1x1x32x128 .f32) (c : Vec Ideal S1x4096x80 .f32)
    (hrd : ∀ k j, rd k j = rowA (nA m d b k) j) (han : ∀ q k, an k (ix3 0 (qr q) (ql q)) = aA m d (fa g q) k)
    (hre : ∀ q k, re k (ix4 0 0 (qr q) (ql q)) = rA m d b (fa g q) k) (hc : ∀ q j, c (ix3 0 q j) = cA m d b (fa g q) j) :
    clfV (F := Ideal) (sweep (F := Ideal) an rd) c = hs (laneP m d 0 b) g
    ∧ regV (F := Ideal) (anV (an 0)) (anV (an 1)) (anV (an 2)) (anV (an 3)) (sweep (F := Ideal) an rd) re = hs (laneP m d 1 b) g
    ∧ sumR (posV (sweep (F := Ideal) an rd)) = hs (laneP m d 2 b) g := by
  have ha : ∀ q, anQ an q = aA m d (fa g q) := fun q => funext fun k => han q k
  have hp : ∀ q, pkQ an rd q = pkP (aA m d) (nA m d) b (fa g q) := by
    intro q
    unfold pkQ pkP
    rw [ha]
    congr 1
    funext k
    simp only [iousA, iousP, hrd]
    rfl
  rw [clfV_at, regV_at, nposV_at]
  refine ⟨Finset.sum_congr rfl fun q _ => ?_, Finset.sum_congr rfl fun q _ => ?_, Finset.sum_congr rfl fun q _ => ?_⟩
  · rw [hp, hrd]
    simp only [hc]
    rfl
  · rw [hp, ha]
    simp only [hre, hrd]
    refine congrArg (fun g' => regS _ _ g' _) (funext fun k => ?_)
    fin_cases k <;> rfl
  · rw [hp]
    rfl

/-- What a grid point adds to an entry of the output block, in the arguments. -/
theorem pt_at (t : Fin cfg0.N) (xo : Vec Ideal S4x1x128 .f32) (b : Fin 4) (l : Fin 3) :
    pt (grid0.coords t) (iblk m d 0 t) (iblk m d 1 t) (iblk m d 2 t) (iblk m d 3 t) (iblk m d 4 t) (iblk m d 5 t) (iblk m d 6 t) xo (ix3 b 0 (l.castLE (by decide)))
      = xo (ix3 b 0 (l.castLE (by decide))) + (if b.val = t.val % 4 then hs (laneP m d l b) (2 * (t.val / 4)) + hs (laneP m d l b) (2 * (t.val / 4) + 1) else 0) := by
  have hi : (grid0.coords t 1).val = t.val % 4 := (idxs t).2.2.2.2.2.2.2
  have hb : (grid0.coords t 1 : Fin 4) = bt t := Fin.ext hi
  have hrd : ∀ (k : Fin 32) (j : Fin 6), iblk m d 0 t (ix3 (grid0.coords t 1) k j) = rowA (nA m d (bt t) k) j := fun k j => by
    rw [← ann_at, ← blk0 m d t, ← hb]
  obtain ⟨p1, p2, p3⟩ := half_at m d (bt t) (2 * (t.val / 4)) (fun k j => iblk m d 0 t (ix3 (grid0.coords t 1) k j))
    (fun k j => iblk m d 5 t (ix3 k (j 1) (j 2))) (fun k j => iblk m d 3 t (ix4 0 k (j 2) (j 3))) (iblk m d 1 t)
    hrd (fun q k => blk5 m d t q k) (fun q k => blk3 m d t q k) (fun q j => blk1 m d t q j)
  obtain ⟨q1, q2, q3⟩ := half_at m d (bt t) (2 * (t.val / 4) + 1) (fun k j => iblk m d 0 t (ix3 (grid0.coords t 1) k j))
    (fun k j => iblk m d 6 t (ix3 k (j 1) (j 2))) (fun k j => iblk m d 4 t (ix4 0 k (j 2) (j 3))) (iblk m d 2 t)
    hrd (fun q k => blk6 m d t q k) (fun q k => blk4 m d t q k) (fun q j => blk2 m d t q j)
  unfold pt ptAll
  rw [ptV_at, p1, p2, p3, q1, q2, q3, hi]
  refine congrArg (xo (ix3 b 0 (l.castLE (by decide))) + ·) ?_
  by_cases h : b.val = t.val % 4
  · have hbb : bt t = b := Fin.ext h.symm
    rw [if_pos h, if_pos h, hbb]
    fin_cases l
    · show (if (0 : ℕ) = 0 then _ else _) + (if (0 : ℕ) = 1 then _ else _) + (if (0 : ℕ) = 2 then _ else _) = _
      rw [if_pos rfl, if_neg (by decide), if_neg (by decide), add_zero, add_zero]; rfl
    · show (if (1 : ℕ) = 0 then _ else _) + (if (1 : ℕ) = 1 then _ else _) + (if (1 : ℕ) = 2 then _ else _) = _
      rw [if_neg (by decide), if_pos rfl, if_neg (by decide), add_zero, zero_add]; rfl
    · show (if (2 : ℕ) = 0 then _ else _) + (if (2 : ℕ) = 1 then _ else _) + (if (2 : ℕ) = 2 then _ else _) = _
      rw [if_neg (by decide), if_neg (by decide), if_pos rfl, zero_add, zero_add]; rfl
  · rw [if_neg h, if_neg h]

/-- The halves of an image's points cover its sixteen half blocks. -/
theorem sum_halves (h : ℕ → EReal) (b : Fin 4) :
    ∑ p : Fin 32, (if b.val = p.val % 4 then h (2 * (p.val / 4)) + h (2 * (p.val / 4) + 1) else 0) = ∑ g : Fin 16, h g.val := by
  fin_cases b <;> simp [Fin.sum_univ_succ] <;> abel

/-- The half blocks cover the anchors. -/
theorem sum_hs (f : Fin 65536 → EReal) : ∑ g : Fin 16, hs f g.val = ∑ a, f a := by
  unfold hs
  rw [← Fintype.sum_prod_type' (fun (g : Fin 16) (q : Fin 4096) => f (fa g.val q))]
  refine Fintype.sum_equiv (finProdFinEquiv : Fin 16 × Fin 4096 ≃ Fin 65536) _ _ fun x => ?_
  refine congrArg f (Fin.ext ?_)
  rw [fa_val _ _ x.1.2]
  show _ = x.2.val + 4096 * x.1.val
  omega

/-- The output block the last point leaves: the sums over all anchors of each image. -/
theorem outs_last (b : Fin 4) (l : Fin 3) (h : 31 < cfg0.N) :
    outsAt0 m d 31 h (ix3 b 0 (l.castLE (by decide))) = ∑ a, laneP m d l b a := by
  have key := Pipeline.eq_sum_fin_of_reset_step_last (N := cfg0.N)
    (fun n hn => (outsAt0 m d n hn (ix3 b 0 (l.castLE (by decide))) : EReal)) 32 0
    (fun t => if b.val = t.val % 4 then hs (laneP m d l b) (2 * (t.val / 4)) + hs (laneP m d l b) (2 * (t.val / 4) + 1) else 0)
    (fun t h0 => by
      rw [outsAt0_A m d t h0, out_A, pt_at]
      congr 1
      show Ideal.ofBits .f32 0#32 = 0
      pointwise [])
    (fun t h0 => by
      rw [outsAt0_B m d t h0, out_B, pt_at])
    (by decide) ⟨31, h⟩ rfl
  refine key.trans ?_
  rw [zero_add, ← sum_hs]
  exact sum_halves (hs (laneP m d l b)) b

end Cert.Own
-- ==== Proof.Tail.lean ====
module

public import proofs.«01_k».proof.Proof.Acc

@[expose] public section

set_option maxRecDepth 16384

noncomputable section

namespace Cert.Own

open Idealize.ShloMosaic Idealize.ShloMosaic.TcCoe Idealize.ShloMosaic.Tactic
open Cert.KernelIdeal Cert.KernelIdeal.Gen

variable (m : (ℓ : Loc nD τ sig) → Buf (Elt Ideal) ℓ) (d : Dev nD)

/-- The last point's contents of the output window are what its array ends with. -/
theorem arr_end : (dats m 0 d).arrAt 7 cfg0.N = outsAt0 m d 31 (by decide) := by
  refine Pipeline.Dat.arrAt_eq_of_after_last (dats m 0 d) 7 ⟨31, by decide⟩ (by decide +kernel) _ fun j => ?_
  rw [after0_7]
  rfl

/-- The classification result the closing lines compute from the output block. -/
theorem tail0 (W : Valuation τ sig (Elt Ideal)) (x y : Fin 4 → EReal)
    (hx : ∀ b, W (Proc.devRef .tc main_v20) (ix3 b 0 0) = x b) (hy : ∀ b, W (Proc.devRef .tc main_v20) (ix3 b 0 2) = y b) :
    StableHlo.after [hostOps1 (F := Ideal), hostOps1_1, hostOps1_2, hostOps1_3, hostOps1_4].flatten W (Proc.devRef .tc main_v41) (ix1 0)
      = Ideal.div (∑ b : Fin 4, Ideal.div (x b) (max 1 (y b))) (fb 0x40800000#32) := by
  simp only [List.flatten_cons, List.flatten_nil, List.append_nil, List.cons_append, List.nil_append]
  after_reads_at
  simp only [id_eq]
  pointwise [hx, hy]

/-- The regression result the closing lines compute from the output block. -/
theorem tail1 (W : Valuation τ sig (Elt Ideal)) (x y : Fin 4 → EReal)
    (hx : ∀ b, W (Proc.devRef .tc main_v20) (ix3 b 0 1) = x b) (hy : ∀ b, W (Proc.devRef .tc main_v20) (ix3 b 0 2) = y b) :
    StableHlo.after [hostOps1 (F := Ideal), hostOps1_1, hostOps1_2, hostOps1_3, hostOps1_4].flatten W (Proc.devRef .tc main_v41) (ix1 1)
      = Ideal.div (∑ b : Fin 4, Ideal.div (x b) (max 1 (y b * fb 0x40800000#32))) (fb 0x40800000#32) := by
  simp only [List.flatten_cons, List.flatten_nil, List.append_nil, List.cons_append, List.nil_append]
  after_reads_at
  simp only [id_eq]
  pointwise [hx, hy]

/-- The two results. -/
def resAll : Vec Ideal S2 .f32 := fun x => ![resClf (cA m d) (aA m d) (nA m d), resReg (rA m d) (aA m d) (nA m d)] (x 0)

/-- What the kernel leaves in its result. -/
theorem kern_res : Pipeline.afterTail₀ cfgs (dats m) 0 (V0 m) [hostOps1, hostOps1_1, hostOps1_2, hostOps1_3, hostOps1_4] d main_v41 = resAll m d := by
  unfold Pipeline.afterTail₀
  have hw : ∀ (l : Fin 3) (b : Fin 4), Pipeline.withArrays (cfgs 0).spec d (V0 m d) (fun w => (dats m 0 d).arrAt w (cfgs 0).N) (Proc.devRef .tc main_v20) (ix3 b 0 (l.castLE (by decide)))
      = ∑ a, laneP m d l b a := fun l b =>
    (congrFun (Pipeline.Dat.withArrays_arrAt (dats m 0 d) (by decide +kernel) (V0 m d) (fun w => rfl) 7) (ix3 b 0 (l.castLE (by decide)))).trans
      ((congrFun (arr_end m d) _).trans (outs_last m d b l (by decide)))
  funext x
  obtain ⟨k, rfl⟩ : ∃ k : Fin 2, x = ix1 k := ⟨x 0, by funext a; fin_cases a; rfl⟩
  fin_cases k
  · exact tail0 _ _ _ (hw 0) (hw 2)
  · exact tail1 _ _ _ (hw 1) (hw 2)

/-- The kernel's run: its result is the two means, its arguments unchanged. -/
theorem kern_run (g : Dev nD → PrngReg) :
    θ_run (defs (F := Ideal)) (onTc (τ := τ) (main (F := Ideal))) ⟨m, fun _ => 0, g⟩ (fun r => ∀ c : Dev nD,
      r.2.mem ((c.tc : Thread nD τ).loc main_v41) = resAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1.rest_eq c main_v41 (Pipeline.mem_restRefs_of main_v41 (by decide) (by decide))).trans (kern_res m c), h.2 c⟩)
    (θ_run_and (run_main m g) (unchanged m g))

end Cert.Own
-- ==== Proof.RefSeg.lean ====
module

public import proofs.«01_k».proof.Proof.RefRun
public import Idealize.ShloMosaic.Lib.Pointwise
public import Idealize.ShloMosaic.Lib.Pipeline.Frame
public import Idealize.ShloMosaic.Lib.StableHlo.RunRead

@[expose] public section

set_option maxRecDepth 16384

noncomputable section

namespace Cert.Own

open Idealize.ShloMosaic Idealize.SL.Sem Idealize.ShloMosaic.StableHlo Cert.ReferenceIdeal

/-- A stretch of the reference's operations: `n` of them from position `a`. -/
def sg (a n : ℕ) : List (HloOp τ sig (Elt Ideal)) := (refOps.1.drop a).take n

/-- The reference's contents after its first `p` operations. -/
def S (V : Valuation τ sig (Elt Ideal)) (p : ℕ) : Valuation τ sig (Elt Ideal) := after (refOps.1.take p) V

/-- The contents after a stretch, from those before it. -/
theorem S_step (V : Valuation τ sig (Elt Ideal)) (a n : ℕ) : S V (a + n) = after (sg a n) (S V a) := by
  rw [S, S, sg, List.take_add, after_append]

/-- All operations of the reference have run after 315. -/
theorem S_end (V : Valuation τ sig (Elt Ideal)) : S V 315 = after refOps.1 V := by
  rw [S]
  rfl

/-- The reference's buffer number `k`. -/
def rf (k : Fin 319) : Ref sig .tc := ⟨.hbm, k, rfl⟩

/-- The buffers the operations write, in order. -/
def wr : List (Ref sig .tc) := List.ofFn fun i : Fin 315 => rf ⟨i.val + 4, by omega⟩

/-- What the operations write is that list. -/
theorem wr_eq : refOps.1.map HloOp.writes = wr.map fun r => {Proc.devRef (τ := τ) .tc r} := rfl

/-- A buffer a stretch does not write keeps its contents. -/
theorem S_keep (V : Valuation τ sig (Elt Ideal)) (p q : ℕ) (hpq : p ≤ q) (k : Fin 319) (h : k.val < p + 4 ∨ q + 4 ≤ k.val) :
    S V q (Proc.devRef .tc (rf k)) = S V p (Proc.devRef .tc (rf k)) := by
  obtain ⟨n, rfl⟩ := Nat.exists_eq_add_of_le hpq
  rw [S_step]
  refine after_unwritten ((wr.drop p).take n) ?_ ?_ _
  · rw [sg, List.map_take, List.map_drop, wr_eq, List.map_take, List.map_drop]
  · intro hm
    obtain ⟨i, hi, he⟩ := List.mem_iff_getElem.mp hm
    rw [List.getElem_take, List.getElem_drop] at he
    simp only [wr, List.getElem_ofFn] at he
    have hv : p + i + 4 = k.val := congrArg (fun r : Ref sig .tc => r.idx.val) he
    rw [List.length_take] at hi
    omega

end Cert.Own
-- ==== Proof.RefA.lean ====
module

public import proofs.«01_k».proof.Proof.RefSeg
public import proofs.«01_k».proof.Proof.Spec
public import Idealize.ShloMosaic.Lib.StableHlo.ReadAt

@[expose] public section

set_option maxRecDepth 16384

noncomputable section

namespace Cert.Own

open Idealize.ShloMosaic Idealize.ShloMosaic.StableHlo Idealize.ShloMosaic.TcCoe Idealize.ShloMosaic.Tactic Cert.ReferenceIdeal

variable (W : Valuation τ sig (Elt Ideal)) (c : Fin 4 → Fin 65536 → Fin 80 → EReal) (re : Fin 4 → Fin 65536 → Fin 4 → EReal)
  (an : Fin 65536 → Fin 4 → EReal) (ann : Fin 4 → Fin 32 → Fin 5 → EReal)

/-- The anchors without their unit axis. -/
theorem s1_v0 (h : ∀ a k, W (Proc.devRef .tc main_arg2) (ix3 0 a k) = an a k) (a : Fin 65536) (k : Fin 4) :
    after (sg 0 32) W (Proc.devRef .tc main_v0) (ix2 a k) = an a k := by
  unfold sg refOps
  after_reads_at
  try simp only [id_eq]
  pointwise [h]

/-- An anchor's width. -/
theorem s1_v5 (h : ∀ a k, W (Proc.devRef .tc main_arg2) (ix3 0 a k) = an a k) (a : Fin 65536) :
    after (sg 0 32) W (Proc.devRef .tc main_v5) (ix1 a) = an a 2 - an a 0 := by
  unfold sg refOps
  after_reads_at
  try simp only [id_eq]
  pointwise [h]

/-- An anchor's height. -/
theorem s1_v10 (h : ∀ a k, W (Proc.devRef .tc main_arg2) (ix3 0 a k) = an a k) (a : Fin 65536) :
    after (sg 0 32) W (Proc.devRef .tc main_v10) (ix1 a) = an a 3 - an a 1 := by
  unfold sg refOps
  after_reads_at
  try simp only [id_eq]
  pointwise [h]

/-- An anchor's centre, first coordinate. -/
theorem s1_v15 (h : ∀ a k, W (Proc.devRef .tc main_arg2) (ix3 0 a k) = an a k) (a : Fin 65536) :
    after (sg 0 32) W (Proc.devRef .tc main_v15) (ix1 a) = an a 0 + fb 0x3F000000#32 * (an a 2 - an a 0) := by
  unfold sg refOps
  after_reads_at
  try simp only [id_eq]
  pointwise [h]

/-- An anchor's centre, second coordinate. -/
theorem s1_v20 (h : ∀ a k, W (Proc.devRef .tc main_arg2) (ix3 0 a k) = an a k) (a : Fin 65536) :
    after (sg 0 32) W (Proc.devRef .tc main_v20) (ix1 a) = an a 1 + fb 0x3F000000#32 * (an a 3 - an a 1) := by
  unfold sg refOps
  after_reads_at
  try simp only [id_eq]
  pointwise [h]

/-- The four scales of the regression targets. -/
theorem s1_cst (k : Fin 4) :
    after (sg 0 32) W (Proc.devRef .tc main_cst) (ix1 k) = ![fb 0x3DCCCCCD#32, fb 0x3DCCCCCD#32, fb 0x3E4CCCCD#32, fb 0x3E4CCCCD#32] k := by
  unfold sg refOps
  fin_cases k
  all_goals
    after_reads_at
    rfl

/-- The clipped scores. -/
theorem s1_v21 (h : ∀ b a j, W (Proc.devRef .tc main_arg0) (ix3 b a j) = c b a j) (b : Fin 4) (a : Fin 65536) (j : Fin 80) :
    after (sg 0 32) W (Proc.devRef .tc main_v21) (ix3 b a j) = clipS (c b a j) := by
  unfold sg refOps
  after_reads_at
  try simp only [id_eq]
  pointwise [h]
  rfl

/-- The overlap of every anchor with every box. -/
theorem s2_v90 (h : ∀ a k, W (Proc.devRef .tc main_v0) (ix2 a k) = an a k) (hn : ∀ b k j, W (Proc.devRef .tc main_arg3) (ix3 b k j) = ann b k j) (b : Fin 4) (a : Fin 65536) (k : Fin 32) :
    after (sg 32 78) W (Proc.devRef .tc main_v90) (ix3 b a k) = iousP an ann b a k := by
  unfold sg refOps
  after_reads_at
  try simp only [id_eq]
  pointwise [h, hn]
  rfl

end Cert.Own
-- ==== Proof.Gath.lean ====
module

public import proofs.«01_k».proof.ReferenceIdeal
public import Idealize.ShloMosaic.Lib.ValueIdxCore
public import Idealize.ShloMosaic.Lib.Pointwise

@[expose] public section

noncomputable section

namespace Cert.Own

open Idealize.ShloMosaic Cert.ReferenceIdeal

variable [Cert.ReferenceIdeal.Facts₀]

/-- The row gather read at an entry: the row the index names, read signed and clamped, of the same image. -/
theorem gather_at (x : Vec Ideal S4x32x5 .f32) (idx : IVec S4x65536x1 32) (b : Fin 4) (a : Fin 65536) (j : Fin 5) :
    Host.gather gather_S4x32x5_S4x65536x1_S4x65536x5_2_1_0_0_1_2_115 x idx (ix3 b a j)
      = x (ix3 b ⟨min (idx (ix3 b a 0)).toInt.toNat 31, by omega⟩ j) := by
  unfold Host.gather
  congr 1
  funext k
  refine Fin.ext ?_
  show gather_S4x32x5_S4x65536x1_S4x65536x5_2_1_0_0_1_2_115.start (ix3 b a j) idx k + gather_S4x32x5_S4x65536x1_S4x65536x5_2_1_0_0_1_2_115.batchCoord (ix3 b a j) k
      + gather_S4x32x5_S4x65536x1_S4x65536x5_2_1_0_0_1_2_115.offCoord (ix3 b a j) k = _
  have hk : k = (0 : Fin 3) ∨ k = (1 : Fin 3) ∨ k = (2 : Fin 3) := by
    obtain ⟨n, hn⟩ := k
    have hn' : n < 3 := hn
    interval_cases n
    · exact Or.inl rfl
    · exact Or.inr (Or.inl rfl)
    · exact Or.inr (Or.inr rfl)
  rcases hk with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S4x32x5_S4x65536x1_S4x65536x5_2_1_0_0_1_2_115.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S4x32x5_S4x65536x1_S4x65536x5_2_1_0_0_1_2_115.startIndexMap from List.mem_singleton.mpr rfl)]
    have hsi : gather_S4x32x5_S4x65536x1_S4x65536x5_2_1_0_0_1_2_115.siIdx (ix3 b a j) ⟨List.idxOf (1 : Fin 3) gather_S4x32x5_S4x65536x1_S4x65536x5_2_1_0_0_1_2_115.startIndexMap,
        List.idxOf_lt_length_iff.2 (List.mem_singleton.mpr rfl)⟩ = ix3 b a 0 := by
      funext b; refine Fin.ext ?_
      match b with
      | ⟨0, _⟩ => rfl
      | ⟨1, _⟩ => rfl
      | ⟨2, _⟩ => rfl
    exact congrArg (fun i => min (idx i).toInt.toNat 31) hsi
  · rw [GatherDims.batchCoord_eq_zero _ _ _ (fun h => absurd (List.mem_singleton.mp h) (by decide))]
    unfold GatherDims.start
    rw [dif_neg (show ¬ (2 : Fin 3) ∈ gather_S4x32x5_S4x65536x1_S4x65536x5_2_1_0_0_1_2_115.startIndexMap from fun h => absurd (List.mem_singleton.mp h) (by decide))]
    simp only [Nat.zero_add]
    unfold GatherDims.offCoord
    rw [dif_pos (show (2 : Fin 3) ∈ gather_S4x32x5_S4x65536x1_S4x65536x5_2_1_0_0_1_2_115.sKept from (GatherDims.mem_sKept _ _).mpr ⟨fun h => absurd (List.mem_singleton.mp h) (by decide), fun h => absurd (List.mem_singleton.mp h) (by decide)⟩)]
    rfl

end Cert.Own
-- ==== Proof.Pick.lean ====
module

public import proofs.«01_k».proof.Proof.Spec
public import proofs.«01_k».proof.ReferenceIdeal
public import Idealize.ShloMosaic.PureOps.Ideal.Laws

@[expose] public section

noncomputable section

namespace Cert.Own

open Idealize.ShloMosaic

/-- The pick among the first values is the value at its place. -/
theorem pickN_eq (v : Fin 32 → EReal) (n : ℕ) (h : n < 32) : v (pickN v n h).2 = (pickN v n h).1 := by
  induction n with
  | zero => rfl
  | succ n ih =>
    rw [pickN]
    split
    · rfl
    · exact ih _

/-- Each of the first values lies below their pick, or equals it and does not come before it. -/
theorem pickN_le (v : Fin 32 → EReal) (n : ℕ) (h : n < 32) (i : Fin 32) (hi : i.val ≤ n) :
    v i < (pickN v n h).1 ∨ (v i = (pickN v n h).1 ∧ (pickN v n h).2 ≤ i) := by
  induction n with
  | zero =>
    obtain rfl : i = ⟨0, h⟩ := Fin.ext (Nat.le_zero.mp hi)
    exact Or.inr ⟨rfl, le_refl _⟩
  | succ n ih =>
    rw [pickN]
    rcases Nat.lt_or_ge n i.val with hn | hn
    · obtain rfl : i = ⟨n + 1, h⟩ := Fin.ext (by simp; omega)
      split
      · exact Or.inr ⟨rfl, le_refl _⟩
      · rename_i hlt
        rcases lt_or_eq_of_le (not_lt.mp hlt) with h1 | h1
        · exact Or.inl h1
        · refine Or.inr ⟨h1, ?_⟩
          have hb : ∀ (k : ℕ) (hk : k < 32), (pickN v k hk).2.val ≤ k := by
            intro k hk
            induction k with
            | zero => exact le_refl _
            | succ k ihk =>
              rw [pickN]
              split
              · exact le_refl _
              · exact Nat.le_succ_of_le (ihk _)
          exact Nat.le_succ_of_le (hb n _)
    · have := ih (Nat.lt_of_succ_lt h) hn
      split
      · rename_i hlt
        rcases this with h1 | h1
        · exact Or.inl (h1.trans hlt)
        · exact Or.inl (h1.1 ▸ hlt)
      · exact this

/-- The picked value is the value at the picked place. -/
theorem pick_eq (v : Fin 32 → EReal) : v (pick v).2 = (pick v).1 := pickN_eq v 31 (by decide)

/-- Every value lies below the picked one, or equals it and does not come before it. -/
theorem pick_le (v : Fin 32 → EReal) (i : Fin 32) : v i < (pick v).1 ∨ (v i = (pick v).1 ∧ (pick v).2 ≤ i) :=
  pickN_le v 31 (by decide) i (by omega)

/-- These two facts determine the pick. -/
theorem pick_unique (v : Fin 32 → EReal) (p : EReal × Fin 32) (h1 : v p.2 = p.1) (h2 : ∀ i, v i < p.1 ∨ (v i = p.1 ∧ p.2 ≤ i)) : pick v = p := by
  have e : (pick v).1 = p.1 := by
    apply le_antisymm
    · rw [← pick_eq v]
      rcases h2 (pick v).2 with h | h
      · exact le_of_lt h
      · exact le_of_eq h.1
    · rw [← h1]
      rcases pick_le v p.2 with h | h
      · exact le_of_lt h
      · exact le_of_eq h.1
  refine Prod.ext e (le_antisymm ?_ ?_)
  · rcases pick_le v p.2 with h | h
    · exact absurd h (by rw [h1, e]; exact lt_irrefl _)
    · exact h.2
  · rcases h2 (pick v).2 with h | h
    · exact absurd h (by rw [pick_eq v, e]; exact lt_irrefl _)
    · exact h.2

/-- The maximum of the values is the picked one. -/
theorem fold_max (v : Fin 32 → EReal) : Finset.fold max ⊥ v Finset.univ = (pick v).1 := by
  apply le_antisymm
  · rw [Finset.fold_max_le]
    refine ⟨bot_le, fun i _ => ?_⟩
    rcases pick_le v i with h | h
    · exact le_of_lt h
    · exact le_of_eq h.1
  · rw [Finset.le_fold_max]
    exact Or.inr ⟨(pick v).2, Finset.mem_univ _, le_of_eq (pick_eq v).symm⟩

/-- One step of the arg-max: the larger value, of equal values the smaller place. -/
def amax (a b : EReal × Fin 32) : EReal × Fin 32 := if b.1 < a.1 ∨ (a.1 = b.1 ∧ a.2 < b.2) then a else b

/-- A pair with its place as a word. -/
def wd (p : EReal × Fin 32) : EReal × BitVec 32 := (p.1, BitVec.ofNat 32 p.2.val)

/-- Comparing the words of two places compares the places. -/
theorem slt_ofNat (i j : Fin 32) : (BitVec.ofNat 32 i.val).slt (BitVec.ofNat 32 j.val) = decide (i < j) := by
  decide +revert

/-- The printed arg-max step is that step. -/
theorem reducer_eq (a b : EReal × Fin 32) : Cert.ReferenceIdeal.reducer_argmax_f32_i32 (F := Ideal) (wd a) (wd b) = wd (amax a b) := by
  obtain ⟨x, i⟩ := a
  obtain ⟨y, j⟩ := b
  have h1 : FloatOps.cmpf (F := Ideal) (φ := .f32) .ogt x y = BitVec.ofBool (decide (y < x)) := rfl
  have h2 : FloatOps.cmpf (F := Ideal) (φ := .f32) .une x x = BitVec.ofBool (decide (x ≠ x)) := rfl
  have h3 : FloatOps.cmpf (F := Ideal) (φ := .f32) .oeq x y = BitVec.ofBool (decide (x = y)) := rfl
  have h4 : IntOp.cmpi .slt (BitVec.ofNat 32 i.val) (BitVec.ofNat 32 j.val) = BitVec.ofBool (decide (i < j)) := by
    rw [← slt_ofNat]; rfl
  unfold Cert.ReferenceIdeal.reducer_argmax_f32_i32 amax wd
  simp only [h1, h2, h3, h4]
  rcases lt_trichotomy x y with h | h | h
  · have g1 : ¬ y < x := not_lt.mpr h.le
    have g2 : x ≠ y := h.ne
    simp [g1, g2, Scalar.select, IntOp.ori, IntOp.andi]
  · subst h
    by_cases hij : i < j <;> simp [hij, Scalar.select, IntOp.ori, IntOp.andi]
  · have g2 : x ≠ y := h.ne'
    simp [h, g2, Scalar.select, IntOp.ori, IntOp.andi]

/-- Folding the arg-max step over all the places, in any order, from the least value gives the pick. -/
theorem foldl_amax {ι : Type} (v : Fin 32 → EReal) (g : ι → Fin 32) (L : List ι) (hL : ∀ k, ∃ n ∈ L, g n = k) :
    L.foldl (fun r n => amax r (v (g n), g n)) (⊥, 0) = pick v := by
  have key : ∀ (M : List ι) (r : EReal × Fin 32), (r = (⊥, 0) ∨ v r.2 = r.1) →
      ((M.foldl (fun r n => amax r (v (g n), g n)) r = (⊥, 0) ∨ v (M.foldl (fun r n => amax r (v (g n), g n)) r).2 = (M.foldl (fun r n => amax r (v (g n), g n)) r).1)
      ∧ (∀ w i, (w < r.1 ∨ (w = r.1 ∧ r.2 ≤ i)) → (w < (M.foldl (fun r n => amax r (v (g n), g n)) r).1 ∨ (w = (M.foldl (fun r n => amax r (v (g n), g n)) r).1 ∧ (M.foldl (fun r n => amax r (v (g n), g n)) r).2 ≤ i)))
      ∧ (∀ n ∈ M, v (g n) < (M.foldl (fun r n => amax r (v (g n), g n)) r).1 ∨ (v (g n) = (M.foldl (fun r n => amax r (v (g n), g n)) r).1 ∧ (M.foldl (fun r n => amax r (v (g n), g n)) r).2 ≤ g n))) := by
    intro M
    induction M with
    | nil => exact fun r hr => ⟨hr, fun _ _ h => h, fun _ h => nomatch h⟩
    | cons n M ih =>
      intro r hr
      rw [List.foldl_cons]
      have hs : amax r (v (g n), g n) = (⊥, 0) ∨ v (amax r (v (g n), g n)).2 = (amax r (v (g n), g n)).1 := by
        unfold amax
        split
        · exact hr
        · exact Or.inr rfl
      have hle : ∀ w i, (w < r.1 ∨ (w = r.1 ∧ r.2 ≤ i)) → (w < (amax r (v (g n), g n)).1 ∨ (w = (amax r (v (g n), g n)).1 ∧ (amax r (v (g n), g n)).2 ≤ i)) := by
        intro w i h
        unfold amax
        split
        · exact h
        · rename_i hc
          simp only [not_or, not_lt, not_and] at hc
          rcases h with h | h
          · exact Or.inl (lt_of_lt_of_le h hc.1)
          · rcases lt_or_eq_of_le hc.1 with h' | h'
            · exact Or.inl (h.1 ▸ h')
            · exact Or.inr ⟨h.1.trans h', (hc.2 h').trans h.2⟩
      have hn : v (g n) < (amax r (v (g n), g n)).1 ∨ (v (g n) = (amax r (v (g n), g n)).1 ∧ (amax r (v (g n), g n)).2 ≤ g n) := by
        unfold amax
        split
        · rename_i hc
          rcases hc with h | h
          · exact Or.inl h
          · exact Or.inr ⟨h.1.symm, h.2.le⟩
        · exact Or.inr ⟨rfl, le_refl _⟩
      obtain ⟨a1, a2, a3⟩ := ih _ hs
      refine ⟨a1, fun w i h => a2 w i (hle w i h), fun n' hn' => ?_⟩
      rcases List.mem_cons.mp hn' with rfl | h
      · exact a2 _ _ hn
      · exact a3 n' h
  obtain ⟨a1, _, a3⟩ := key L (⊥, 0) (Or.inl rfl)
  generalize L.foldl (fun r n => amax r (v (g n), g n)) (⊥, 0) = p at a1 a3 ⊢
  have a3' : ∀ i, v i < p.1 ∨ (v i = p.1 ∧ p.2 ≤ i) := by
    intro i
    obtain ⟨n, hn, rfl⟩ := hL i
    exact a3 n hn
  refine (pick_unique v p ?_ a3').symm
  rcases a1 with h | h
  · subst h
    rcases a3' 0 with h | h
    · exact absurd h not_lt_bot
    · exact h.1
  · exact h

end Cert.Own
-- ==== Proof.Bits.lean ====
module

public import proofs.«01_k».proof.Proof.Pick
public import Idealize.ShloMosaic.Lib.IndicatorCount
public import Idealize.ShloMosaic.Lib.Pointwise
public import Idealize.ShloMosaic.PureOps.Reduce

@[expose] public section

noncomputable section

namespace Cert.Own

open Idealize.ShloMosaic Cert.ReferenceIdeal

/-- A bit turned into a float is one or zero. -/
theorem uitofp_bit (b : Bool) : FloatOps.uitofp (F := Ideal) FTy.f32 (BitVec.ofBool b) = if b then (1 : EReal) else 0 := by
  have h : FloatOps.uitofp (F := Ideal) FTy.f32 (BitVec.ofBool b) = (((BitVec.ofBool b).toNat : ℝ) : EReal) := rfl
  rw [h]
  cases b <;> simp

/-- A float sum of ones and zeros is the number of ones. -/
theorem sum_bits {ι : Type} (S : Finset ι) (p : ι → Bool) :
    ∑ x ∈ S, (if p x then (1 : EReal) else 0) = (((S.filter fun x => p x = true).card : ℝ) : EReal) := by
  classical
  induction S using Finset.cons_induction with
  | empty => simp
  | cons x S hx ih =>
    rw [Finset.sum_cons, ih, Finset.filter_cons]
    by_cases h : p x
    · rw [if_pos h, if_pos h, Finset.card_cons, Nat.cast_add, Nat.cast_one, EReal.coe_add, EReal.coe_one, add_comm]
    · simp [h]

/-- The 32-bit count of set bits over all the anchors, as a float, is the sum of the bits: it does not wrap. -/
theorem count_at (p : Fin 65536 → Bool) :
    FloatOps.sitofp (F := Ideal) FTy.f32 (Finset.univ.fold IntOp.addi (0#32) (fun a => (BitVec.ofBool (p a)).setWidth 32))
      = ∑ a, if p a then (1 : EReal) else 0 := by
  rw [IndicatorCount.fold_addi_setWidth_eq_card, sum_bits]
  have e : (Finset.univ.filter fun a => BitVec.ofBool (p a) = 1#1) = Finset.univ.filter fun a => p a = true := by
    ext a
    simp only [Finset.mem_filter, Finset.mem_univ, true_and]
    cases p a <;> decide
  rw [e]
  have hc : (Finset.univ.filter fun a => p a = true).card ≤ 65536 := by
    simpa using Finset.card_le_univ (Finset.univ.filter fun a => p a = true)
  generalize (Finset.univ.filter fun a => p a = true).card = n at hc ⊢
  have h : FloatOps.sitofp (F := Ideal) FTy.f32 (BitVec.ofNat 32 n) = (((BitVec.ofNat 32 n).toInt : ℝ) : EReal) := rfl
  rw [h]
  have ht : (BitVec.ofNat 32 n).toInt = (n : ℤ) := by
    rw [BitVec.toInt_eq_toNat_of_lt (by rw [BitVec.toNat_ofNat]; omega), BitVec.toNat_ofNat, Nat.mod_eq_of_lt (by omega)]
  rw [ht]
  simp

/-- A fold of the printed arg-max step over pairs with word places is the fold of the step over pairs. -/
theorem foldl_wd {ι : Type} (u : ι → EReal × Fin 32) (L : List ι) (r : EReal × Fin 32) :
    L.foldl (fun r n => reducer_argmax_f32_i32 (F := Ideal) r (wd (u n))) (wd r) = wd (L.foldl (fun r n => amax r (u n)) r) := by
  induction L generalizing r with
  | nil => rfl
  | cons n L ih => rw [List.foldl_cons, List.foldl_cons, reducer_eq, ih]

/-- Minus infinity's word is the least value. -/
theorem neg_inf : Ideal.ofBits .f32 0xFF800000#32 = (⊥ : EReal) := by
  simp [Ideal.ofBits, Ideal.ieee]

/-- The host's arg-max over the boxes is the place of the pick. -/
theorem argmax_at (X : FVec Ideal S4x65536x32 .f32) (h : S4x65536x32.ReducesTo [2] S4x65536) (hu : 0 < S_.numel) (b : Fin 4) (a : Fin 65536) :
    (Host.argReduce reducer_argmax_f32_i32 X (iotaInDim S4x65536x32 32 2) (constant S_ .f32 0xFF800000#32) (constantI S_ 32 0#32) h hu (ix2 b a)).2
      = BitVec.ofNat 32 (pick (fun k => X (ix3 b a k))).2.val := by
  rw [Ideal.argReduce_eq_reduce2]
  unfold Host.reduce2
  have hdrop : ∀ i : S4x65536x32.Idx, h.drop i = ix2 b a ↔ ((i 0).val = b.val ∧ (i 1).val = a.val) := by
    intro i
    have h0 : (h.drop i 0 : Nat) = i 0 := Shape.ReducesTo.drop_apply_val h i 0
    have h1 : (h.drop i 1 : Nat) = i 1 := Shape.ReducesTo.drop_apply_val h i 1
    constructor
    · intro e
      rw [e] at h0 h1
      exact ⟨h0.symm, h1.symm⟩
    · rintro ⟨e0, e1⟩
      funext k
      refine Fin.ext ?_
      obtain rfl | rfl : k = 0 ∨ k = 1 := by revert k; decide
      · exact h0.trans e0
      · exact h1.trans e1
  have hix : ∀ n ∈ (List.finRange S4x65536x32.numel).filter (fun n => decide (h.drop (S4x65536x32.rowMajor.symm n) = ix2 b a)),
      S4x65536x32.rowMajor.symm n = ix3 b a (S4x65536x32.rowMajor.symm n 2) := by
    intro n hn
    have := (hdrop _).mp (of_decide_eq_true (List.mem_filter.mp hn).2)
    funext k
    refine Fin.ext ?_
    obtain rfl | rfl | rfl : k = 0 ∨ k = 1 ∨ k = 2 := by revert k; decide
    · exact this.1
    · exact this.2
    · rfl
  have e1 : ((constant S_ .f32 0xFF800000#32 : FVec Ideal S_ .f32) (Shape.Idx.first hu), constantI S_ 32 0#32 (Shape.Idx.first hu)) = wd (⊥, 0) := by
    refine Prod.ext ?_ rfl
    exact neg_inf
  have e2 := foldl_amax (fun k => X (ix3 b a k)) (fun n => (S4x65536x32.rowMajor.symm n 2 : Fin 32))
    ((List.finRange S4x65536x32.numel).filter (fun n => decide (h.drop (S4x65536x32.rowMajor.symm n) = ix2 b a))) (fun k => by
      refine ⟨S4x65536x32.rowMajor (ix3 b a k), List.mem_filter.mpr ⟨List.mem_finRange _, decide_eq_true ?_⟩, ?_⟩
      · rw [hdrop, Equiv.symm_apply_apply]
        exact ⟨rfl, rfl⟩
      · rw [Equiv.symm_apply_apply]
        rfl)
  rw [e1, ← e2, ← show ∀ p, (wd p).2 = BitVec.ofNat 32 p.2.val from fun _ => rfl, ← foldl_wd]
  refine congrArg Prod.snd (List.foldl_ext _ _ _ fun r n hn => ?_)
  refine congrArg (reducer_argmax_f32_i32 (F := Ideal) r) (Prod.ext ?_ rfl)
  exact congrArg X (hix n hn)

end Cert.Own
-- ==== Proof.RefB.lean ====
module

public import proofs.«01_k».proof.Proof.RefSeg
public import proofs.«01_k».proof.Proof.Gath
public import proofs.«01_k».proof.Proof.Bits
public import Idealize.ShloMosaic.Lib.StableHlo.ReadAt

@[expose] public section

set_option maxRecDepth 16384

noncomputable section

namespace Cert.Own

open Idealize.ShloMosaic Idealize.ShloMosaic.StableHlo Idealize.ShloMosaic.TcCoe Idealize.ShloMosaic.Tactic Cert.ReferenceIdeal

variable (W : Valuation τ sig (Elt Ideal)) (c : Fin 4 → Fin 65536 → Fin 80 → EReal) (re : Fin 4 → Fin 65536 → Fin 4 → EReal)
  (an : Fin 65536 → Fin 4 → EReal) (ann : Fin 4 → Fin 32 → Fin 5 → EReal)

/-- The best overlap of every anchor. -/
theorem s3_v91 (v : Fin 4 → Fin 65536 → Fin 32 → EReal) (h : ∀ b a k, W (Proc.devRef .tc main_v90) (ix3 b a k) = v b a k) (b : Fin 4) (a : Fin 65536) :
    after (sg 110 2) W (Proc.devRef .tc main_v91) (ix2 b a) = (pick (v b a)).1 := by
  unfold sg refOps
  after_reads_at
  try simp only [id_eq]
  pointwise [h]
  rw [neg_inf]
  exact fold_max (v b a)

/-- The place of the best overlap. -/
theorem s3_v92 (v : Fin 4 → Fin 65536 → Fin 32 → EReal) (h : ∀ b a k, W (Proc.devRef .tc main_v90) (ix3 b a k) = v b a k) (b : Fin 4) (a : Fin 65536) :
    after (sg 112 5) W (Proc.devRef .tc main_v92) (ix2 b a) = BitVec.ofNat 32 (pick (v b a)).2.val := by
  unfold sg refOps
  simp only [List.drop_succ_cons, List.take_succ_cons, List.take_zero, List.drop_zero]
  after_reads_simp
  simp only [TRef.ofBuf_toBuf]
  simp -implicitDefEqProofs only [TRef.toBuf, TRef.ofBuf, cast_eq]
  rw [argmax_at]
  rw [show (fun k => W (Proc.devRef .tc main_v90) (ix3 b a k)) = v b a from funext (h b a)]

/-- The negative anchors: best overlap at most 0.01. -/
theorem s3_v94 (m : Fin 4 → Fin 65536 → EReal) (h : ∀ b a, W (Proc.devRef .tc main_v91) (ix2 b a) = m b a) (b : Fin 4) (a : Fin 65536) :
    after (sg 117 7) W (Proc.devRef .tc main_v94) (ix2 b a) = BitVec.ofBool (decide (m b a ≤ fb 0x3C23D70A#32)) := by
  unfold sg refOps
  after_reads_at
  try simp only [id_eq]
  pointwise [h]

/-- The positive anchors: best overlap above 0.1. -/
theorem s3_v96 (m : Fin 4 → Fin 65536 → EReal) (h : ∀ b a, W (Proc.devRef .tc main_v91) (ix2 b a) = m b a) (b : Fin 4) (a : Fin 65536) :
    after (sg 117 7) W (Proc.devRef .tc main_v96) (ix2 b a) = BitVec.ofBool (decide (fb 0x3DCCCCCD#32 < m b a)) := by
  unfold sg refOps
  after_reads_at
  try simp only [id_eq]
  pointwise [h]

/-- The places with a unit axis behind. -/
theorem s3_v97 (r : Fin 4 → Fin 65536 → BitVec 32) (h : ∀ b a, W (Proc.devRef .tc main_v92) (ix2 b a) = r b a) (b : Fin 4) (a : Fin 65536) :
    after (sg 117 7) W (Proc.devRef .tc main_v97) (ix3 b a 0) = r b a := by
  unfold sg refOps
  after_reads_at
  try simp only [id_eq]
  pointwise [h]

/-- A place among the 32 boxes is not negative, so it is used as it stands. -/
theorem wrap_word (k : Fin 32) : Scalar.select (IntOp.cmpi .slt (BitVec.ofNat 32 k.val) 0#32) (IntOp.addi (BitVec.ofNat 32 k.val) 32#32) (BitVec.ofNat 32 k.val) = BitVec.ofNat 32 k.val := by
  decide +revert

/-- A place among the 32 boxes passes both range tests. -/
theorem range_word (k : Fin 32) : IntOp.andi (IntOp.cmpi .sge (BitVec.ofNat 32 k.val) 0#32) (IntOp.cmpi .sle (BitVec.ofNat 32 k.val) 31#32) = 1#1 := by
  decide +revert

/-- Clamping a place among the 32 boxes changes nothing. -/
theorem clamp_word (k : Fin 32) : min (BitVec.ofNat 32 k.val).toInt.toNat 31 = k.val := by
  decide +revert

/-- The annotation every anchor is assigned. -/
theorem s4_v98 (r : Fin 4 → Fin 65536 → Fin 32) (h : ∀ b a, W (Proc.devRef .tc main_v97) (ix3 b a 0) = BitVec.ofNat 32 (r b a).val) (hn : ∀ b k j, W (Proc.devRef .tc main_arg3) (ix3 b k j) = ann b k j) (b : Fin 4) (a : Fin 65536) (j : Fin 5) :
    after (sg 124 22) W (Proc.devRef .tc main_v98) (ix3 b a j) = ann b (r b a) j := by
  unfold sg refOps
  after_reads_at
  try simp only [id_eq]
  have h' : ∀ (b : Fin 4) (a : Fin 65536) (x : Fin 1), W (Proc.devRef .tc main_v97) (ix3 b a x) = BitVec.ofNat 32 (r b a).val := fun b a x => by
    rw [Subsingleton.elim x 0]
    exact h b a
  pointwise [h']
  simp only [wrap_word, range_word]
  rw [gather_at]
  pointwise [h']
  simp only [wrap_word, clamp_word]
  rw [show Finset.fold IntOp.andi (1#1) (fun _ : Fin 1 => 1#1) Finset.univ = 1#1 from rfl]
  exact hn b (r b a) j

end Cert.Own
-- ==== Proof.RefC.lean ====
module

public import proofs.«01_k».proof.Proof.RefSeg
public import proofs.«01_k».proof.Proof.Spec
public import proofs.«01_k».proof.Proof.Bits
public import Idealize.ShloMosaic.Lib.StableHlo.ReadAt

@[expose] public section

set_option maxRecDepth 16384

noncomputable section

namespace Cert.Own

open Idealize.ShloMosaic Idealize.ShloMosaic.StableHlo Idealize.ShloMosaic.TcCoe Idealize.ShloMosaic.Tactic Cert.ReferenceIdeal

variable (W : Valuation τ sig (Elt Ideal)) (c : Fin 4 → Fin 65536 → Fin 80 → EReal) (re : Fin 4 → Fin 65536 → Fin 4 → EReal)
  (an : Fin 65536 → Fin 4 → EReal) (ann : Fin 4 → Fin 32 → Fin 5 → EReal)

/-- The target of a class: one or zero at a positive anchor, zero at a negative one, minus one elsewhere. -/
def tgS (p n : Bool) (l : EReal) (j : Fin 80) : EReal :=
  if p then (if BitVec.ofNat 32 j.val = FloatOps.fptosi (F := Ideal) (φ := .f32) 32 l then 1 else 0) else if n then 0 else fb 0xBF800000#32

/-- The focal term of a clipped score against a target, nothing at a target of minus one. -/
def fcS (t cc : EReal) : EReal :=
  if t ≠ fb 0xBF800000#32 then (if t = 1 then fb 0x3E800000#32 else fb 0x3F400000#32) * Ideal.pow (if t = 1 then 1 - cc else cc) (fb 0x40000000#32)
    * -(t * Ideal.log cc + (1 - t) * Ideal.log (1 - cc)) else 0

/-- The number of positive anchors. -/
def cntS (p : Fin 65536 → Bool) : EReal := ∑ a, if p a then (1 : EReal) else 0

/-- Equality of words as a bit. -/
theorem cmp_bit (x y : BitVec 32) : IntOp.cmpi .eq x y = BitVec.ofBool (decide (y = x)) := by
  by_cases h : y = x
  · subst h; simp [IntOp.cmpi]
  · have : (x == y) = false := by simpa using fun e => h e.symm
    simp [IntOp.cmpi, h, this]

/-- The targets. -/
theorem s5_v107 (p n : Fin 4 → Fin 65536 → Bool) (l : Fin 4 → Fin 65536 → EReal) (hp : ∀ b a, W (Proc.devRef .tc main_v96) (ix2 b a) = BitVec.ofBool (p b a)) (hn : ∀ b a, W (Proc.devRef .tc main_v94) (ix2 b a) = BitVec.ofBool (n b a)) (hl : ∀ b a, W (Proc.devRef .tc main_v98) (ix3 b a 4) = l b a) (b : Fin 4) (a : Fin 65536) (j : Fin 80) :
    after (sg 146 24) W (Proc.devRef .tc main_v107) (ix3 b a j) = tgS (p b a) (n b a) (l b a) j := by
  unfold sg refOps
  after_reads_at
  try simp only [id_eq]
  pointwise [hp, hn, hl]
  unfold tgS
  rw [cmp_bit, uitofp_bit]
  simp only [decide_eq_true_eq]

/-- The number of positive anchors of an image. -/
theorem s5_v110 (p : Fin 4 → Fin 65536 → Bool) (hp : ∀ b a, W (Proc.devRef .tc main_v96) (ix2 b a) = BitVec.ofBool (p b a)) (b : Fin 4) :
    after (sg 146 24) W (Proc.devRef .tc main_v110) (ix1 b) = cntS (p b) := by
  unfold sg refOps
  after_reads_at
  try simp only [id_eq]
  pointwise [hp]
  exact count_at (p b)

/-- The focal terms. -/
theorem s6_v136 (t cc : Fin 4 → Fin 65536 → Fin 80 → EReal) (ht : ∀ b a j, W (Proc.devRef .tc main_v107) (ix3 b a j) = t b a j) (hc : ∀ b a j, W (Proc.devRef .tc main_v21) (ix3 b a j) = cc b a j) (b : Fin 4) (a : Fin 65536) (j : Fin 80) :
    after (sg 170 40) W (Proc.devRef .tc main_v136) (ix3 b a j) = fcS (t b a j) (cc b a j) := by
  unfold sg refOps
  after_reads_at
  try simp only [id_eq]
  pointwise [ht, hc]
  rfl

/-- An image's classification loss. -/
theorem s7_v139 (f : Fin 4 → Fin 65536 → Fin 80 → EReal) (q : Fin 4 → EReal) (hf : ∀ b a j, W (Proc.devRef .tc main_v136) (ix3 b a j) = f b a j) (hq : ∀ b, W (Proc.devRef .tc main_v110) (ix1 b) = q b) (b : Fin 4) :
    after (sg 210 7) W (Proc.devRef .tc main_v139) (ix1 b) = Ideal.div (∑ a, ∑ j, f b a j) (max 1 (q b)) := by
  unfold sg refOps
  after_reads_at
  try simp only [id_eq]
  pointwise [hf, hq]

end Cert.Own
-- ==== Proof.RefD.lean ====
module

public import proofs.«01_k».proof.Proof.RefSeg
public import proofs.«01_k».proof.Proof.Spec
public import proofs.«01_k».proof.Proof.Bits
public import Idealize.ShloMosaic.Lib.StableHlo.ReadAt

@[expose] public section

set_option maxRecDepth 16384

noncomputable section

namespace Cert.Own

open Idealize.ShloMosaic Idealize.ShloMosaic.StableHlo Idealize.ShloMosaic.TcCoe Idealize.ShloMosaic.Tactic Cert.ReferenceIdeal

variable (W : Valuation τ sig (Elt Ideal)) (c : Fin 4 → Fin 65536 → Fin 80 → EReal) (re : Fin 4 → Fin 65536 → Fin 4 → EReal)
  (an : Fin 65536 → Fin 4 → EReal) (ann : Fin 4 → Fin 32 → Fin 5 → EReal)

/-- The assigned box's centre, first coordinate. -/
theorem s8_v154 (g : Fin 4 → Fin 65536 → Fin 5 → EReal) (hg : ∀ b a j, W (Proc.devRef .tc main_v98) (ix3 b a j) = g b a j) (b : Fin 4) (a : Fin 65536) :
    after (sg 217 30) W (Proc.devRef .tc main_v154) (ix2 b a) = g b a 0 + fb 0x3F000000#32 * (g b a 2 - g b a 0) := by
  unfold sg refOps
  after_reads_at
  try simp only [id_eq]
  pointwise [hg]

/-- The assigned box's centre, second coordinate. -/
theorem s8_v159 (g : Fin 4 → Fin 65536 → Fin 5 → EReal) (hg : ∀ b a j, W (Proc.devRef .tc main_v98) (ix3 b a j) = g b a j) (b : Fin 4) (a : Fin 65536) :
    after (sg 217 30) W (Proc.devRef .tc main_v159) (ix2 b a) = g b a 1 + fb 0x3F000000#32 * (g b a 3 - g b a 1) := by
  unfold sg refOps
  after_reads_at
  try simp only [id_eq]
  pointwise [hg]

/-- The assigned box's width, at least one. -/
theorem s8_v160 (g : Fin 4 → Fin 65536 → Fin 5 → EReal) (hg : ∀ b a j, W (Proc.devRef .tc main_v98) (ix3 b a j) = g b a j) (b : Fin 4) (a : Fin 65536) :
    after (sg 217 30) W (Proc.devRef .tc main_v160) (ix2 b a) = max 1 (g b a 2 - g b a 0) := by
  unfold sg refOps
  after_reads_at
  try simp only [id_eq]
  pointwise [hg]

/-- The assigned box's height, at least one. -/
theorem s8_v161 (g : Fin 4 → Fin 65536 → Fin 5 → EReal) (hg : ∀ b a j, W (Proc.devRef .tc main_v98) (ix3 b a j) = g b a j) (b : Fin 4) (a : Fin 65536) :
    after (sg 217 30) W (Proc.devRef .tc main_v161) (ix2 b a) = max 1 (g b a 3 - g b a 1) := by
  unfold sg refOps
  after_reads_at
  try simp only [id_eq]
  pointwise [hg]

/-- The regression terms: the smooth distance of the target from the prediction, at positive anchors. -/
theorem s9_v203 (cx : Fin 4 → Fin 65536 → EReal) (hcx : ∀ b a, W (Proc.devRef .tc main_v154) (ix2 b a) = cx b a) (cy : Fin 4 → Fin 65536 → EReal) (hcy : ∀ b a, W (Proc.devRef .tc main_v159) (ix2 b a) = cy b a) (gw : Fin 4 → Fin 65536 → EReal) (hgw : ∀ b a, W (Proc.devRef .tc main_v160) (ix2 b a) = gw b a) (gh : Fin 4 → Fin 65536 → EReal) (hgh : ∀ b a, W (Proc.devRef .tc main_v161) (ix2 b a) = gh b a)
    (aw : Fin 65536 → EReal) (haw : ∀ a, W (Proc.devRef .tc main_v5) (ix1 a) = aw a) (ah : Fin 65536 → EReal) (hah : ∀ a, W (Proc.devRef .tc main_v10) (ix1 a) = ah a) (ax : Fin 65536 → EReal) (hax : ∀ a, W (Proc.devRef .tc main_v15) (ix1 a) = ax a) (ay : Fin 65536 → EReal) (hay : ∀ a, W (Proc.devRef .tc main_v20) (ix1 a) = ay a)
    (st : Fin 4 → EReal) (hst : ∀ k, W (Proc.devRef .tc main_cst) (ix1 k) = st k) (hre : ∀ b a k, W (Proc.devRef .tc main_arg1) (ix3 b a k) = re b a k)
    (p : Fin 4 → Fin 65536 → Bool) (hp : ∀ b a, W (Proc.devRef .tc main_v96) (ix2 b a) = BitVec.ofBool (p b a)) (b : Fin 4) (a : Fin 65536) (k : Fin 4) :
    after (sg 247 45) W (Proc.devRef .tc main_v203) (ix3 b a k) = rlS (![Ideal.div (Ideal.div (cx b a - ax a) (aw a)) (st 0), Ideal.div (Ideal.div (cy b a - ay a) (ah a)) (st 1), Ideal.div (Ideal.log (Ideal.div (gw b a) (aw a))) (st 2), Ideal.div (Ideal.log (Ideal.div (gh b a) (ah a))) (st 3)] k) (re b a k) * (if p b a then 1 else 0) := by
  unfold sg refOps
  fin_cases k
  all_goals
    simp only [Fin.reduceFinMk, Fin.zero_eta, Fin.mk_one]
    after_reads_at
    try after_reads_at
    try simp only [id_eq]
    pointwise [hcx, hcy, hgw, hgh, haw, hah, hax, hay, hst, hre, hp]
    rw [uitofp_bit]
    rfl

/-- The first result. -/
theorem s10_v217a (x : Fin 4 → EReal) (hx : ∀ b, W (Proc.devRef .tc main_v139) (ix1 b) = x b) :
    after (sg 292 23) W (Proc.devRef .tc main_v217) (ix1 0) = Ideal.div (∑ b, x b) (fb 0x40800000#32) := by
  unfold sg refOps
  after_reads_at
  try simp only [id_eq]
  pointwise [hx]

/-- The second result. -/
theorem s10_v217b (q : Fin 4 → EReal) (f : Fin 4 → Fin 65536 → Fin 4 → EReal) (hq : ∀ b, W (Proc.devRef .tc main_v110) (ix1 b) = q b)
    (hf : ∀ b a k, W (Proc.devRef .tc main_v203) (ix3 b a k) = f b a k) :
    after (sg 292 23) W (Proc.devRef .tc main_v217) (ix1 1) = Ideal.div (∑ b, Ideal.div (∑ a, ∑ k, f b a k) (max 1 (q b * fb 0x40800000#32))) (fb 0x40800000#32) := by
  unfold sg refOps
  after_reads_at
  try simp only [id_eq]
  pointwise [hq, hf]

end Cert.Own
-- ==== Proof.Loss.lean ====
module

public import proofs.«01_k».proof.Proof.RefC

@[expose] public section

noncomputable section

namespace Cert.Own

open Idealize.ShloMosaic

/-- The number the word of the lower clip bound denotes. -/
theorem lo_real : ∃ r : ℝ, fb 0x38D1B717#32 = (r : EReal) ∧ 0 < r ∧ r < 1 := by
  refine ⟨_, by simp only [fb, Ideal.ofBits, Ideal.ieee]; simp; rfl, ?_, ?_⟩ <;> norm_num

/-- The number the word of the upper clip bound denotes. -/
theorem hi_real : ∃ r : ℝ, fb 0x3F7FF972#32 = (r : EReal) ∧ 0 < r ∧ r < 1 := by
  refine ⟨_, by simp only [fb, Ideal.ofBits, Ideal.ieee]; simp; rfl, ?_, ?_⟩ <;> norm_num

/-- The weight of a target of zero is a real number. -/
theorem w0_real : ∃ r : ℝ, fb 0x3F400000#32 = (r : EReal) :=
  ⟨_, by simp only [fb, Ideal.ofBits, Ideal.ieee]; simp; rfl⟩

/-- The weight of a target of one is a real number. -/
theorem w1_real : ∃ r : ℝ, fb 0x3E800000#32 = (r : EReal) :=
  ⟨_, by simp only [fb, Ideal.ofBits, Ideal.ieee]; simp; rfl⟩

/-- The exponent is two. -/
theorem two_real : fb 0x40000000#32 = ((2 : ℝ) : EReal) := by
  simp only [fb, Ideal.ofBits, Ideal.ieee]; simp
  rw [← EReal.coe_mul]
  norm_num

/-- The target that takes no part is below zero. -/
theorem ign_real : ∃ r : ℝ, fb 0xBF800000#32 = (r : EReal) ∧ r < 0 := by
  refine ⟨_, by simp only [fb, Ideal.ofBits, Ideal.ieee]; simp; rfl, ?_⟩ ; norm_num

/-- The bound of the negative anchors lies below that of the positive ones. -/
theorem neg_lt_pos : fb 0x3C23D70A#32 < fb 0x3DCCCCCD#32 := by
  have h1 : ∃ r : ℝ, fb 0x3C23D70A#32 = (r : EReal) ∧ r < 1 / 20 := by
    refine ⟨_, by simp only [fb, Ideal.ofBits, Ideal.ieee]; simp; rfl, ?_⟩ ; norm_num
  have h2 : ∃ r : ℝ, fb 0x3DCCCCCD#32 = (r : EReal) ∧ 1 / 20 < r := by
    refine ⟨_, by simp only [fb, Ideal.ofBits, Ideal.ieee]; simp; rfl, ?_⟩ ; norm_num
  obtain ⟨r, hr, h⟩ := h1
  obtain ⟨s, hs, h'⟩ := h2
  rw [hr, hs]
  exact EReal.coe_lt_coe_iff.mpr (h.trans h')

/-- A clipped score is a real number strictly between zero and one. -/
theorem clip_real (x : EReal) : ∃ r : ℝ, clipS x = (r : EReal) ∧ 0 < r ∧ r < 1 := by
  obtain ⟨l, hl, l0, l1⟩ := lo_real
  obtain ⟨h, hh, h0, h1⟩ := hi_real
  have a1 : clipS x ≤ (h : EReal) := by rw [clipS, hh]; exact min_le_left _ _
  have a2 : ((min h l : ℝ) : EReal) ≤ clipS x := by
    rw [clipS, hh, hl]
    exact le_min (EReal.coe_le_coe_iff.mpr (min_le_left _ _)) ((EReal.coe_le_coe_iff.mpr (min_le_right _ _)).trans (le_max_left _ _))
  have e : clipS x = ((clipS x).toReal : EReal) :=
    (EReal.coe_toReal (ne_top_of_le_ne_top (EReal.coe_ne_top h) a1) (ne_bot_of_le_ne_bot (EReal.coe_ne_bot _) a2)).symm
  refine ⟨_, e, ?_, ?_⟩
  · rw [e, EReal.coe_le_coe_iff] at a2
    exact lt_of_lt_of_le (lt_min h0 l0) a2
  · rw [e, EReal.coe_le_coe_iff] at a1
    exact lt_of_le_of_lt a1 h1

/-- The square as a power. -/
theorem pow_two' (r : ℝ) : Ideal.pow (r : EReal) (fb 0x40000000#32) = (r : EReal) * (r : EReal) := by
  rw [two_real, Ideal.pow_coe_coe, ← EReal.coe_mul]
  congr 1
  show r ^ (2 : ℝ) = r * r
  rw [Real.rpow_two, sq]

/-- The focal terms of a score strictly between zero and one, against a target of zero and of one, are real. -/
theorem f_real (r : ℝ) (h0 : 0 < r) (h1 : r < 1) :
    fcS 0 (r : EReal) = f0S (r : EReal) ∧ fcS 1 (r : EReal) = f1S (r : EReal) ∧ (∃ a : ℝ, f0S (r : EReal) = (a : EReal)) ∧ (∃ a : ℝ, f1S (r : EReal) = (a : EReal)) := by
  obtain ⟨n, hn, n0⟩ := ign_real
  obtain ⟨w0, hw0⟩ := w0_real
  obtain ⟨w1, hw1⟩ := w1_real
  have e1 : (1 : EReal) - (r : EReal) = ((1 - r : ℝ) : EReal) := by rw [EReal.coe_sub, EReal.coe_one]
  have l1 : Ideal.log ((1 - r : ℝ) : EReal) = ((Real.log (1 - r) : ℝ) : EReal) := by
    rw [Ideal.log_coe, if_neg (by linarith)]
  have l0 : Ideal.log ((r : ℝ) : EReal) = ((Real.log r : ℝ) : EReal) := by
    rw [Ideal.log_coe, if_neg (by linarith)]
  have i0 : (0 : EReal) ≠ fb 0xBF800000#32 := by
    rw [hn]; intro e; exact n0.ne' (EReal.coe_eq_coe_iff.mp (by rw [EReal.coe_zero]; exact e))
  have i1 : (1 : EReal) ≠ fb 0xBF800000#32 := by
    rw [hn]; intro e; exact (n0.trans one_pos).ne' (EReal.coe_eq_coe_iff.mp (by rw [EReal.coe_one]; exact e))
  have z1 : (1 : EReal) - 1 = 0 := by rw [← EReal.coe_one, ← EReal.coe_sub, sub_self, EReal.coe_zero]
  have z0 : (1 : EReal) - 0 = 1 := by simp
  have zs : ∀ x : EReal, 0 - x = -x := fun x => by rw [sub_eq_add_neg, zero_add]
  refine ⟨?_, ?_, ?_, ?_⟩
  · rw [fcS, f0S, if_pos i0, if_neg zero_ne_one, if_neg zero_ne_one, pow_two', z0, zero_mul, one_mul, zero_add, zs]
  · rw [fcS, f1S, if_pos i1, if_pos rfl, if_pos rfl, e1, pow_two', z1, zero_mul, one_mul, add_zero, zs]
  · refine ⟨_, by rw [f0S, e1, l1, hw0, zs, ← EReal.coe_neg, ← EReal.coe_mul, ← EReal.coe_mul, ← EReal.coe_mul]⟩
  · refine ⟨_, by rw [f1S, e1, l0, hw1, zs, ← EReal.coe_neg, ← EReal.coe_mul, ← EReal.coe_mul, ← EReal.coe_mul]⟩

/-- A sum of reals is the real sum. -/
theorem coe_sum' {ι : Type} (s : Finset ι) (f : ι → ℝ) : ∑ i ∈ s, (f i : EReal) = ((∑ i ∈ s, f i : ℝ) : EReal) := by
  classical
  induction s using Finset.cons_induction with
  | empty => simp
  | cons x s hx ih => rw [Finset.sum_cons, Finset.sum_cons, ih, EReal.coe_add]

/-- The words of the classes differ. -/
theorem cls_word (j l : Fin 80) : BitVec.ofNat 32 j.val = BitVec.ofNat 32 l.val ↔ j = l := by
  constructor
  · intro e
    have := congrArg BitVec.toNat e
    simp only [BitVec.toNat_ofNat] at this
    exact Fin.ext (by omega)
  · rintro rfl; rfl

/-- The focal terms of an anchor over the classes, summed, are its classification loss, given that its label names a class. -/
theorem clf_sum (best lab : EReal) (c : Fin 80 → EReal) (l : Fin 80) (hl : FloatOps.fptosi (F := Ideal) (φ := .f32) 32 lab = BitVec.ofNat 32 l.val) :
    ∑ j, fcS (tgS (decide (fb 0x3DCCCCCD#32 < best)) (decide (best ≤ fb 0x3C23D70A#32)) lab j) (clipS (c j)) = clfS best lab fun j => clipS (c j) := by
  choose r hr r0 r1 using fun j => clip_real (c j)
  have hF := fun j => f_real (r j) (r0 j) (r1 j)
  have hsel : selS lab (fun j => (r j : EReal)) = (r l : EReal) := by
    rw [selS, hl]
    simp only [cls_word, Finset.sum_ite_eq', Finset.mem_univ, if_true]
  simp only [clfS, hr, hsel]
  choose a ha using fun j => (hF j).2.2.1
  choose b hb using fun j => (hF j).2.2.2
  by_cases hp : fb 0x3DCCCCCD#32 < best
  · have hn : ¬ best ≤ fb 0x3C23D70A#32 := not_le.mpr (neg_lt_pos.trans hp)
    have e : ∀ j, fcS (tgS (decide (fb 0x3DCCCCCD#32 < best)) (decide (best ≤ fb 0x3C23D70A#32)) lab j) (r j : EReal) = ((if j = l then b j else a j : ℝ) : EReal) := by
      intro j
      rw [tgS, if_pos (decide_eq_true hp), hl]
      simp only [cls_word]
      by_cases hj : j = l
      · rw [if_pos hj, if_pos hj, (hF j).2.1, hb]
      · rw [if_neg hj, if_neg hj, (hF j).1, ha]
    rw [Finset.sum_congr rfl fun j _ => e j, coe_sum', valS, if_neg hn, posS, if_pos hp, one_mul, one_mul, Finset.sum_congr rfl fun j _ => ha j, coe_sum', ha, hb,
      ← EReal.coe_sub, ← EReal.coe_add]
    congr 1
    have : ∀ j, (if j = l then b j else a j) = a j + if j = l then b j - a j else 0 := by
      intro j
      by_cases hj : j = l <;> simp [hj]
    rw [Finset.sum_congr rfl fun j _ => this j, Finset.sum_add_distrib, Finset.sum_ite_eq' Finset.univ l (fun j => b j - a j), if_pos (Finset.mem_univ _)]
  · by_cases hn : best ≤ fb 0x3C23D70A#32
    · rw [valS, if_pos hn, posS, if_neg hp, one_mul, zero_mul, add_zero]
      refine Finset.sum_congr rfl fun j _ => ?_
      rw [tgS, if_neg (by simpa using hp), if_pos (decide_eq_true hn), (hF j).1]
    · rw [valS, if_neg hn, posS, if_neg hp, zero_mul, zero_mul, add_zero]
      refine Finset.sum_eq_zero fun j _ => ?_
      rw [tgS, if_neg (by simpa using hp), if_neg (by simpa using hn), fcS, if_neg (not_not.mpr rfl)]

/-- The masked regression terms of an anchor, summed over the coordinates, are its regression loss. -/
theorem reg_sum (best : EReal) (a g r : Fin 4 → EReal) :
    ∑ k, rkS a g r k * (if decide (fb 0x3DCCCCCD#32 < best) = true then (1 : EReal) else 0) = regS best a g r := by
  rw [regS, posS, Fin.sum_univ_four]
  by_cases hp : fb 0x3DCCCCCD#32 < best
  · simp [hp]
  · simp [hp]

/-- The number of positive anchors is the sum of their indicators. -/
theorem cnt_sum (best : Fin 65536 → EReal) : cntS (fun a => decide (fb 0x3DCCCCCD#32 < best a)) = ∑ a, posS (best a) := by
  unfold cntS posS
  simp only [decide_eq_true_eq]

end Cert.Own
-- ==== Proof.RefAll.lean ====
module

public import proofs.«01_k».proof.Proof.RefA
public import proofs.«01_k».proof.Proof.RefB
public import proofs.«01_k».proof.Proof.RefC
public import proofs.«01_k».proof.Proof.RefD
public import proofs.«01_k».proof.Proof.Loss

@[expose] public section

set_option maxRecDepth 16384

noncomputable section

namespace Cert.Own

open Idealize.ShloMosaic Idealize.ShloMosaic.StableHlo Idealize.ShloMosaic.TcCoe Cert.ReferenceIdeal

variable (V : Valuation τ sig (Elt Ideal)) (c : Fin 4 → Fin 65536 → Fin 80 → EReal) (re : Fin 4 → Fin 65536 → Fin 4 → EReal)
  (an : Fin 65536 → Fin 4 → EReal) (ann : Fin 4 → Fin 32 → Fin 5 → EReal)
  (h0 : ∀ b a j, V (Proc.devRef .tc main_arg0) (ix3 b a j) = c b a j) (h1 : ∀ b a k, V (Proc.devRef .tc main_arg1) (ix3 b a k) = re b a k)
  (h2 : ∀ a k, V (Proc.devRef .tc main_arg2) (ix3 0 a k) = an a k) (h3 : ∀ b k j, V (Proc.devRef .tc main_arg3) (ix3 b k j) = ann b k j)

/-- Nothing writes the annotations. -/
theorem keep_arg3 (q : ℕ) : S V q (Proc.devRef .tc main_arg3) = V (Proc.devRef .tc main_arg3) :=
  S_keep V 0 q (Nat.zero_le _) 3 (Or.inl (by decide))

/-- Nothing writes the regressions. -/
theorem keep_arg1 (q : ℕ) : S V q (Proc.devRef .tc main_arg1) = V (Proc.devRef .tc main_arg1) :=
  S_keep V 0 q (Nat.zero_le _) 1 (Or.inl (by decide))

include h2 h3 in
/-- The overlaps. -/
theorem a_v90 (b : Fin 4) (a : Fin 65536) (k : Fin 32) : S V 110 (Proc.devRef .tc main_v90) (ix3 b a k) = iousP an ann b a k := by
  rw [show 110 = 32 + 78 from rfl, S_step]
  refine s2_v90 (S V 32) an ann (fun a k => ?_) (fun b k j => ?_) b a k
  · rw [show S V 32 = after (sg 0 32) (S V 0) from S_step V 0 32]
    exact s1_v0 V an h2 a k
  · rw [keep_arg3]
    exact h3 b k j

include h2 h3 in
/-- The best overlaps. -/
theorem a_v91 (b : Fin 4) (a : Fin 65536) : S V 117 (Proc.devRef .tc main_v91) (ix2 b a) = (pkP an ann b a).1 := by
  rw [show S V 117 (Proc.devRef .tc main_v91) = S V 112 (Proc.devRef .tc main_v91) from S_keep V 112 117 (by decide) 115 (by decide), show 112 = 110 + 2 from rfl, S_step]
  exact s3_v91 (S V 110) (iousP an ann) (a_v90 V an ann h2 h3) b a

include h2 h3 in
/-- The places of the best overlaps. -/
theorem a_v92 (b : Fin 4) (a : Fin 65536) : S V 117 (Proc.devRef .tc main_v92) (ix2 b a) = BitVec.ofNat 32 (pkP an ann b a).2.val := by
  rw [show 117 = 112 + 5 from rfl, S_step]
  refine s3_v92 (S V 112) (iousP an ann) (fun b a k => ?_) b a
  rw [show S V 112 (Proc.devRef .tc main_v90) = S V 110 (Proc.devRef .tc main_v90) from S_keep V 110 112 (by decide) 113 (by decide)]
  exact a_v90 V an ann h2 h3 b a k

include h2 h3 in
/-- The negative anchors. -/
theorem a_v94 (b : Fin 4) (a : Fin 65536) : S V 124 (Proc.devRef .tc main_v94) (ix2 b a) = BitVec.ofBool (decide ((pkP an ann b a).1 ≤ fb 0x3C23D70A#32)) := by
  rw [show 124 = 117 + 7 from rfl, S_step]
  exact s3_v94 (S V 117) (fun b a => (pkP an ann b a).1) (a_v91 V an ann h2 h3) b a

include h2 h3 in
/-- The positive anchors. -/
theorem a_v96 (b : Fin 4) (a : Fin 65536) : S V 124 (Proc.devRef .tc main_v96) (ix2 b a) = BitVec.ofBool (decide (fb 0x3DCCCCCD#32 < (pkP an ann b a).1)) := by
  rw [show 124 = 117 + 7 from rfl, S_step]
  exact s3_v96 (S V 117) (fun b a => (pkP an ann b a).1) (a_v91 V an ann h2 h3) b a

include h2 h3 in
/-- The assigned annotations. -/
theorem a_v98 (b : Fin 4) (a : Fin 65536) (j : Fin 5) : S V 146 (Proc.devRef .tc main_v98) (ix3 b a j) = ann b (pkP an ann b a).2 j := by
  rw [show 146 = 124 + 22 from rfl, S_step]
  refine s4_v98 (S V 124) ann (fun b a => (pkP an ann b a).2) (fun b a => ?_) (fun b k j => ?_) b a j
  · rw [show 124 = 117 + 7 from rfl, S_step]
    exact s3_v97 (S V 117) (fun b a => BitVec.ofNat 32 (pkP an ann b a).2.val) (a_v92 V an ann h2 h3) b a
  · rw [keep_arg3]
    exact h3 b k j

include h2 h3 in
/-- The numbers of positive anchors. -/
theorem a_v110 (b : Fin 4) : S V 170 (Proc.devRef .tc main_v110) (ix1 b) = ∑ a, posP an ann b a := by
  rw [show 170 = 146 + 24 from rfl, S_step]
  refine (s5_v110 (S V 146) (fun b a => decide (fb 0x3DCCCCCD#32 < (pkP an ann b a).1)) (fun b a => ?_) b).trans (cnt_sum fun a => (pkP an ann b a).1)
  rw [show S V 146 (Proc.devRef .tc main_v96) = S V 124 (Proc.devRef .tc main_v96) from S_keep V 124 146 (by decide) 126 (by decide)]
  exact a_v96 V an ann h2 h3 b a

/-- The target of a class at an anchor. -/
def tgP (b : Fin 4) (a : Fin 65536) (j : Fin 80) : EReal :=
  tgS (decide (fb 0x3DCCCCCD#32 < (pkP an ann b a).1)) (decide ((pkP an ann b a).1 ≤ fb 0x3C23D70A#32)) (ann b (pkP an ann b a).2 4) j

include h2 h3 in
/-- The targets. -/
theorem a_v107 (b : Fin 4) (a : Fin 65536) (j : Fin 80) : S V 170 (Proc.devRef .tc main_v107) (ix3 b a j) = tgP an ann b a j := by
  rw [show 170 = 146 + 24 from rfl, S_step]
  refine s5_v107 (S V 146) (fun b a => decide (fb 0x3DCCCCCD#32 < (pkP an ann b a).1)) (fun b a => decide ((pkP an ann b a).1 ≤ fb 0x3C23D70A#32))
    (fun b a => ann b (pkP an ann b a).2 4) (fun b a => ?_) (fun b a => ?_) (fun b a => a_v98 V an ann h2 h3 b a 4) b a j
  · rw [show S V 146 (Proc.devRef .tc main_v96) = S V 124 (Proc.devRef .tc main_v96) from S_keep V 124 146 (by decide) 126 (by decide)]
    exact a_v96 V an ann h2 h3 b a
  · rw [show S V 146 (Proc.devRef .tc main_v94) = S V 124 (Proc.devRef .tc main_v94) from S_keep V 124 146 (by decide) 123 (by decide)]
    exact a_v94 V an ann h2 h3 b a

include h0 in
/-- The clipped scores. -/
theorem a_v21 (b : Fin 4) (a : Fin 65536) (j : Fin 80) : S V 170 (Proc.devRef .tc main_v21) (ix3 b a j) = clipS (c b a j) := by
  rw [show S V 170 (Proc.devRef .tc main_v21) = S V 32 (Proc.devRef .tc main_v21) from S_keep V 32 170 (by decide) 35 (by decide),
    show S V 32 = after (sg 0 32) (S V 0) from S_step V 0 32]
  exact s1_v21 V c h0 b a j

include h0 h2 h3 in
/-- The classification losses of the images, given that every label names a class. -/
theorem a_v139 (hl : ∀ b k, ∃ l : Fin 80, FloatOps.fptosi (F := Ideal) (φ := .f32) 32 (ann b k 4) = BitVec.ofNat 32 l.val) (b : Fin 4) :
    S V 217 (Proc.devRef .tc main_v139) (ix1 b) = Ideal.div (∑ a, clfP c an ann b a) (max 1 (∑ a, posP an ann b a)) := by
  rw [show 217 = 210 + 7 from rfl, S_step]
  refine (s7_v139 (S V 210) (fun b a j => fcS (tgP an ann b a j) (clipS (c b a j))) (fun b => ∑ a, posP an ann b a) (fun b a j => ?_) (fun b => ?_) b).trans ?_
  · rw [show 210 = 170 + 40 from rfl, S_step]
    exact s6_v136 (S V 170) (tgP an ann) (fun b a j => clipS (c b a j)) (a_v107 V an ann h2 h3) (a_v21 V c h0) b a j
  · rw [show S V 210 (Proc.devRef .tc main_v110) = S V 170 (Proc.devRef .tc main_v110) from S_keep V 170 210 (by decide) 173 (by decide)]
    exact a_v110 V an ann h2 h3 b
  · have e : ∀ a, ∑ j, fcS (tgP an ann b a j) (clipS (c b a j)) = clfP c an ann b a := fun a => by
      obtain ⟨l, h⟩ := hl b (pkP an ann b a).2
      exact clf_sum _ _ (c b a) l h
    simp only [e]

include h1 h2 h3 in
/-- The masked regression terms. -/
theorem a_v203 (b : Fin 4) (a : Fin 65536) (k : Fin 4) : S V 292 (Proc.devRef .tc main_v203) (ix3 b a k)
    = rkS (an a) (fun k => ann b (pkP an ann b a).2 (k.castLE (by decide))) (re b a) k * (if decide (fb 0x3DCCCCCD#32 < (pkP an ann b a).1) = true then (1 : EReal) else 0) := by
  have e1 : S V 32 = after (sg 0 32) (S V 0) := S_step V 0 32
  have e8 : S V 247 = after (sg 217 30) (S V 217) := S_step V 217 30
  have h98 : ∀ b a j, S V 217 (Proc.devRef .tc main_v98) (ix3 b a j) = ann b (pkP an ann b a).2 j := fun b a j => by
    rw [show S V 217 (Proc.devRef .tc main_v98) = S V 146 (Proc.devRef .tc main_v98) from S_keep V 146 217 (by decide) 149 (by decide)]
    exact a_v98 V an ann h2 h3 b a j
  rw [show 292 = 247 + 45 from rfl, S_step]
  refine (s9_v203 (S V 247) re
    (fun b a => ann b (pkP an ann b a).2 0 + fb 0x3F000000#32 * (ann b (pkP an ann b a).2 2 - ann b (pkP an ann b a).2 0)) (fun b a => by rw [e8]; exact s8_v154 (S V 217) (fun b a j => ann b (pkP an ann b a).2 j) h98 b a)
    (fun b a => ann b (pkP an ann b a).2 1 + fb 0x3F000000#32 * (ann b (pkP an ann b a).2 3 - ann b (pkP an ann b a).2 1)) (fun b a => by rw [e8]; exact s8_v159 (S V 217) (fun b a j => ann b (pkP an ann b a).2 j) h98 b a)
    (fun b a => max 1 (ann b (pkP an ann b a).2 2 - ann b (pkP an ann b a).2 0)) (fun b a => by rw [e8]; exact s8_v160 (S V 217) (fun b a j => ann b (pkP an ann b a).2 j) h98 b a)
    (fun b a => max 1 (ann b (pkP an ann b a).2 3 - ann b (pkP an ann b a).2 1)) (fun b a => by rw [e8]; exact s8_v161 (S V 217) (fun b a j => ann b (pkP an ann b a).2 j) h98 b a)
    (fun a => an a 2 - an a 0) (fun a => by rw [show S V 247 (Proc.devRef .tc main_v5) = S V 32 (Proc.devRef .tc main_v5) from S_keep V 32 247 (by decide) 10 (by decide), e1]; exact s1_v5 V an h2 a)
    (fun a => an a 3 - an a 1) (fun a => by rw [show S V 247 (Proc.devRef .tc main_v10) = S V 32 (Proc.devRef .tc main_v10) from S_keep V 32 247 (by decide) 15 (by decide), e1]; exact s1_v10 V an h2 a)
    (fun a => an a 0 + fb 0x3F000000#32 * (an a 2 - an a 0)) (fun a => by rw [show S V 247 (Proc.devRef .tc main_v15) = S V 32 (Proc.devRef .tc main_v15) from S_keep V 32 247 (by decide) 21 (by decide), e1]; exact s1_v15 V an h2 a)
    (fun a => an a 1 + fb 0x3F000000#32 * (an a 3 - an a 1)) (fun a => by rw [show S V 247 (Proc.devRef .tc main_v20) = S V 32 (Proc.devRef .tc main_v20) from S_keep V 32 247 (by decide) 27 (by decide), e1]; exact s1_v20 V an h2 a)
    ![fb 0x3DCCCCCD#32, fb 0x3DCCCCCD#32, fb 0x3E4CCCCD#32, fb 0x3E4CCCCD#32] (fun k => by rw [show S V 247 (Proc.devRef .tc main_cst) = S V 32 (Proc.devRef .tc main_cst) from S_keep V 32 247 (by decide) 4 (by decide), e1]; exact s1_cst (S V 0) k)
    (fun b a k => by rw [keep_arg1]; exact h1 b a k)
    (fun b a => decide (fb 0x3DCCCCCD#32 < (pkP an ann b a).1)) (fun b a => ?_) b a k).trans ?_
  · rw [show S V 247 (Proc.devRef .tc main_v96) = S V 124 (Proc.devRef .tc main_v96) from S_keep V 124 247 (by decide) 126 (by decide)]
    exact a_v96 V an ann h2 h3 b a
  · show rlS _ _ * _ = _ * _
    congr 1
    fin_cases k <;> rfl

include h0 h1 h2 h3 in
/-- What the reference leaves in its result. -/
theorem ref_res (hl : ∀ b k, ∃ l : Fin 80, FloatOps.fptosi (F := Ideal) (φ := .f32) 32 (ann b k 4) = BitVec.ofNat 32 l.val) (x : S2.Idx) :
    after refOps.1 V (Proc.devRef .tc main_v217) x = ![resClf c an ann, resReg re an ann] (x 0) := by
  rw [← S_end, show 315 = 292 + 23 from rfl, S_step]
  obtain ⟨k, rfl⟩ : ∃ k : Fin 2, x = ix1 k := ⟨x 0, by funext a; fin_cases a; rfl⟩
  fin_cases k
  · refine s10_v217a (S V 292) (fun b => Ideal.div (∑ a, clfP c an ann b a) (max 1 (∑ a, posP an ann b a))) fun b => ?_
    rw [show S V 292 (Proc.devRef .tc main_v139) = S V 217 (Proc.devRef .tc main_v139) from S_keep V 217 292 (by decide) 220 (by decide)]
    exact a_v139 V c an ann h0 h2 h3 hl b
  · refine (s10_v217b (S V 292) (fun b => ∑ a, posP an ann b a) _ (fun b => ?_) (a_v203 V re an ann h1 h2 h3)).trans ?_
    · rw [show S V 292 (Proc.devRef .tc main_v110) = S V 170 (Proc.devRef .tc main_v110) from S_keep V 170 292 (by decide) 173 (by decide)]
      exact a_v110 V an ann h2 h3 b
    · show _ = resReg re an ann
      unfold resReg
      simp only [reg_sum]
      rfl

end Cert.Own
-- ==== Proof.Labels.lean ====
module

public import proofs.«01_k».proof.Proof.Kern
public import proofs.«01_k».proof.Proof.PreFacts
public import proofs.«01_k».proof.Defs

@[expose] public section

noncomputable section

namespace Cert.Own

open Idealize.ShloMosaic Cert.KernelIdeal

/-- A word between 0 and 79 is the word of a class. -/
theorem class_word (w : BitVec 32) (h1 : IntOp.cmpi .sge w 0#32 = 1#1) (h2 : IntOp.cmpi .slt w 80#32 = 1#1) : ∃ l : Fin 80, w = BitVec.ofNat 32 l.val := by
  have a1 : (0 : ℤ) ≤ w.toInt := by
    by_contra hc
    simp [IntOp.cmpi, BitVec.sle, hc] at h1
  have a2 : w.toInt < 80 := by
    by_contra hc
    simp [IntOp.cmpi, BitVec.slt, hc] at h2
  have e : w.toInt = (w.toNat : ℤ) := by
    have := w.isLt
    rw [BitVec.toInt_eq_toNat_cond] at a1 ⊢
    split at a1 <;> split <;> omega
  refine ⟨⟨w.toNat, by omega⟩, ?_⟩
  simp

/-- Two bits whose conjunction is set are both set. -/
theorem both (a b : BitVec 1) (h : IntOp.andi a b = 1#1) : a = 1#1 ∧ b = 1#1 := by
  revert a b
  decide

/-- Bits whose conjunction is set are all set. -/
theorem all_set {ι : Type} (T : Finset ι) (f : ι → BitVec 1) (h : T.fold IntOp.andi 1#1 f = 1#1) (x : ι) (hx : x ∈ T) : f x = 1#1 := by
  classical
  induction T using Finset.cons_induction with
  | empty => exact absurd hx (Finset.notMem_empty x)
  | cons y T hy ih =>
    rw [Finset.fold_cons] at h
    obtain ⟨e1, e2⟩ := both _ _ h
    rcases Finset.mem_cons.mp hx with rfl | hx
    · exact e1
    · exact ih e2 hx

/-- The precondition says that every label of every image, turned into an integer, names a class. -/
theorem labels (m : (ℓ : Loc nD τ sig) → Buf (Elt Ideal) ℓ) (h : Cert.Pre_KernelIdeal_labels_in_range m) (d : Dev nD) (b : Fin 4) (k : Fin 32) :
    ∃ l : Fin 80, FloatOps.fptosi (F := Ideal) (φ := .f32) 32 (nA m d b k 4) = BitVec.ofNat 32 l.val := by
  have hd := congrFun (h d) (fun i => i.elim0)
  unfold Cert.Pre_labels_in_range.fn at hd
  pointwise at hd
  obtain ⟨e1, e2⟩ := both _ _ (all_set _ _ hd (b, k) (Finset.mem_univ _))
  exact class_word _ e1 e2

end Cert.Own
-- ==== Proof.Alg.lean ====
/- The value claim: the kernel and the reference compute the same two losses. -/
module

public import proofs.«01_k».proof.Proof.Tail
public import proofs.«01_k».proof.Proof.RefAll
public import proofs.«01_k».proof.Proof.Labels

@[expose] public section

set_option maxRecDepth 16384

noncomputable section

namespace Cert.Own

open Idealize.ShloMosaic Idealize.SL.Sem Idealize.ShloMosaic.StableHlo

/-- From memories that agree on the arguments, with labels that name classes, the kernel and the reference end with equal results. -/
theorem alg : Cert.algebraic_KernelIdeal_ReferenceIdeal_pre_labels_in_range := by
  intro m g m' g' hpre hargs
  refine ⟨resAll m, kern_run m g, (θ_run _ _ _).mono (fun r h c => ⟨?_, ?_, ?_, ?_, ?_⟩) (ref_run m' g')⟩
  · obtain ⟨e0, e1, e2, e3⟩ := hargs c
    rw [h]
    funext x
    exact ref_res (launchContents m' c) (cA m c) (rA m c) (aA m c) (nA m c) (fun b a j => congrFun e0 (ix3 b a j)) (fun b a k => congrFun e1 (ix3 b a k))
      (fun a k => congrFun e2 (ix3 0 a k)) (fun b k j => congrFun e3 (ix3 b k j)) (labels m hpre c) x
  · rw [h, ← S_end]
    exact S_keep (launchContents m' c) 0 315 (by decide) 0 (Or.inl (by decide))
  · rw [h, ← S_end]
    exact S_keep (launchContents m' c) 0 315 (by decide) 1 (Or.inl (by decide))
  · rw [h, ← S_end]
    exact S_keep (launchContents m' c) 0 315 (by decide) 2 (Or.inl (by decide))
  · rw [h, ← S_end]
    exact S_keep (launchContents m' c) 0 315 (by decide) 3 (Or.inl (by decide))

end Cert.Own
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Alg
public import Idealize.ShloMosaic.Adequacy
public import Idealize.ShloMosaic.Init
public import Idealize.ShloMosaic.Lib.Claim

@[expose] public section

noncomputable section

namespace Cert.Proof

open Idealize.ShloMosaic Idealize.SL.Sem

/-- The claim, conjunct by conjunct in the order of Defs.lean. -/
theorem claim : Cert.Claim :=
  ⟨Cert.Kernel.Gen.facts, Cert.KernelIdeal.Gen.facts, Cert.ReferenceIdeal.Gen.facts, Cert.Own.preFacts,
    fun m g _ => Cert.Kernel.Gen.frame m g, fun m g _ => Cert.KernelIdeal.Gen.frame m g,
    fun m g _ => Cert.KernelIdeal.Gen.frame m g, Cert.Own.ref_frame, fun m g _ => Cert.Own.ref_frame m g trivial,
    trivial, Cert.Own.alg⟩

end Cert.Proof

end
